-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_x_KernelIdeal [hPre_finite_x_KernelIdeal : Cert.Pre_finite_x_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_x_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_x_ReferenceIdeal [hPre_finite_x_ReferenceIdeal : Cert.Pre_finite_x_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_x_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_x_KernelIdeal [hKernelIdeal : Cert.KernelIdeal.Facts] [hPre_finite_x_KernelIdeal : Cert.Pre_finite_x_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_x_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_x_ReferenceIdeal [hReferenceIdeal : Cert.ReferenceIdeal.Facts] [hPre_finite_x_ReferenceIdeal : Cert.Pre_finite_x_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_x_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_x_KernelIdeal [hKernelIdeal : Cert.KernelIdeal.Facts] [hReferenceIdeal : Cert.ReferenceIdeal.Facts] [hPre_finite_x_KernelIdeal : Cert.Pre_finite_x_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_x_KernelIdeal m →
    (∀ c : Dev Cert.KernelIdeal.nD,
      m ((c.tc : Thread Cert.KernelIdeal.nD Cert.KernelIdeal.τ).loc Cert.KernelIdeal.main_arg0) = Layout.block ⟨3, ![4, 512, 256]⟩ ⟨3, ![4, 512, 1024]⟩ 2 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![128, 256]⟩ ⟨2, ![128, 1024]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![128, 256]⟩ ⟨2, ![128, 1024]⟩ 1 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![4, 512, 256]⟩ ⟨3, ![4, 512, 1024]⟩ 2 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v22) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_x_KernelIdeal : Cert.Pre_finite_x_KernelIdeal.Facts) (hPre_finite_x_ReferenceIdeal : Cert.Pre_finite_x_ReferenceIdeal.Facts),
    quiescent_Kernel (hKernel := hKernel)
    ∧ quiescent_KernelIdeal (hKernelIdeal := hKernelIdeal)
    ∧ quiescent_KernelIdeal_pre_finite_x_KernelIdeal (hKernelIdeal := hKernelIdeal) (hPre_finite_x_KernelIdeal := hPre_finite_x_KernelIdeal)
    ∧ quiescent_ReferenceIdeal (hReferenceIdeal := hReferenceIdeal)
    ∧ quiescent_ReferenceIdeal_pre_finite_x_ReferenceIdeal (hReferenceIdeal := hReferenceIdeal) (hPre_finite_x_ReferenceIdeal := hPre_finite_x_ReferenceIdeal)
    ∧ preserves_Kernel_KernelIdeal
    ∧ algebraic_KernelIdeal_ReferenceIdeal_pre_finite_x_KernelIdeal (hKernelIdeal := hKernelIdeal) (hReferenceIdeal := hReferenceIdeal) (hPre_finite_x_KernelIdeal := hPre_finite_x_KernelIdeal)
-- ==== Pre_finite_x_KernelIdeal.lean ====
abbrev S4x512x256 : Shape := ⟨3, ![4, 512, 256]⟩
abbrev S4x128 : Shape := ⟨2, ![4, 128]⟩
abbrev S128x256 : Shape := ⟨2, ![128, 256]⟩
abbrev S_ : Shape := ⟨0, ![]⟩

class Facts : Prop where
  bcast_S_S4x512x256 : S_.BroadcastsInDim S4x512x256 (![] : Fin 0 → Fin S4x512x256.rank)

variable [Facts]

def fn {F : FTy → Type} [FloatOps F] (main_arg0 : FVec F S4x512x256 .f32) (main_arg1 : FVec F S4x128 .f32) (main_arg2 : FVec F S128x256 .f32) (main_arg3 : FVec F S128x256 .f32) : IVec S4x512x256 1 :=
  let main_v0 : FVec F S4x512x256 .f32 := Host.absf main_arg0
  let main_cst : FVec F S_ .f32 := constant S_ .f32 0x7F800000#32
  let main_v1 : FVec F S4x512x256 .f32 := broadcastInDim S4x512x256 ![] bcast_S_S4x512x256 main_cst
  let main_v2 : IVec S4x512x256 1 := cmpf .olt main_v0 main_v1
  main_v2
-- ==== Pre_finite_x_ReferenceIdeal.lean ====
abbrev S4x512x1024 : Shape := ⟨3, ![4, 512, 1024]⟩
abbrev S4x128 : Shape := ⟨2, ![4, 128]⟩
abbrev S128x1024 : Shape := ⟨2, ![128, 1024]⟩
abbrev S_ : Shape := ⟨0, ![]⟩

class Facts : Prop where
  bcast_S_S4x512x1024 : S_.BroadcastsInDim S4x512x1024 (![] : Fin 0 → Fin S4x512x1024.rank)

variable [Facts]

def fn {F : FTy → Type} [FloatOps F] (main_arg0 : FVec F S4x512x1024 .f32) (main_arg1 : FVec F S4x128 .f32) (main_arg2 : FVec F S128x1024 .f32) (main_arg3 : FVec F S128x1024 .f32) : IVec S4x512x1024 1 :=
  let main_v0 : FVec F S4x512x1024 .f32 := Host.absf main_arg0
  let main_cst : FVec F S_ .f32 := constant S_ .f32 0x7F800000#32
  let main_v1 : FVec F S4x512x1024 .f32 := broadcastInDim S4x512x1024 ![] bcast_S_S4x512x1024 main_cst
  let main_v2 : IVec S4x512x1024 1 := cmpf .olt main_v0 main_v1
  main_v2
-- ==== Kernel.lean ====
abbrev S4x512x256 : Shape := ⟨3, ![4, 512, 256]⟩
abbrev S4x128 : Shape := ⟨2, ![4, 128]⟩
abbrev S128x256 : Shape := ⟨2, ![128, 256]⟩
abbrev S4x4x8x128 : Shape := ⟨4, ![4, 4, 8, 128]⟩
abbrev S7 : Shape := ⟨1, ![7]⟩
abbrev S4x3 : Shape := ⟨2, ![4, 3]⟩
abbrev S1 : Shape := ⟨1, ![1]⟩
abbrev S_ : Shape := ⟨0, ![]⟩
abbrev S4x128x256 : Shape := ⟨3, ![4, 128, 256]⟩
abbrev S8x128 : Shape := ⟨2, ![8, 128]⟩
abbrev S1x1x8x128 : Shape := ⟨4, ![1, 1, 8, 128]⟩
abbrev S1x1 : Shape := ⟨2, ![1, 1]⟩
abbrev S4x256 : Shape := ⟨2, ![4, 256]⟩
abbrev S4x128x1 : Shape := ⟨3, ![4, 128, 1]⟩
abbrev S4x1x256 : Shape := ⟨3, ![4, 1, 256]⟩

abbrev nBuf : Space → Nat
  | .hbm => 5
  | .vmem => 6
  | .smem => 0
  | _ => 0

abbrev bufTy : (tb : Table) → Fin (tcTables nBuf tb) → BufTy
  | .hbm, ⟨0, _⟩ => ⟨S4x512x256, .f32⟩
  | .hbm, ⟨1, _⟩ => ⟨S4x128, .f32⟩
  | .hbm, ⟨2, _⟩ => ⟨S128x256, .f32⟩
  | .hbm, ⟨3, _⟩ => ⟨S128x256, .f32⟩
  | .hbm, ⟨4, _⟩ => ⟨S4x512x256, .bf16⟩
  | .local _ .vmem, ⟨0, _⟩ => ⟨S4x512x256, .bf16⟩
  | .local _ .vmem, ⟨1, _⟩ => ⟨S4x512x256, .f32⟩
  | .local _ .vmem, ⟨2, _⟩ => ⟨S4x128, .f32⟩
  | .local _ .vmem, ⟨3, _⟩ => ⟨S128x256, .f32⟩
  | .local _ .vmem, ⟨4, _⟩ => ⟨S128x256, .f32⟩
  | .local _ .vmem, ⟨5, _⟩ => ⟨S4x4x8x128, .f32⟩
  | _, _ => ⟨S4x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  (ofTc nBuf bufTy 1 32 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_23 : BitVec 32 := 1#32
  let v26 : BitVec 32 := Scalar.addi v2 c1_i32_23
  let c4_i32_24 : BitVec 32 := 4#32
  let c0_i32_25 : BitVec 32 := 0#32
  let v27 : BitVec 1 := Scalar.cmpi .eq c4_i32_24 c0_i32_25
  let c1_i32_26 : BitVec 32 := 1#32
  let v28 : BitVec 32 := Scalar.select v27 c1_i32_26 c4_i32_24
  let v29 : BitVec 32 := Scalar.remsi v26 v28
  let c0_i32_28 : BitVec 32 := 0#32
  let v31 : BitVec 1 := Scalar.cmpi .slt v29 c0_i32_28
  let c0_i32_29 : BitVec 32 := 0#32
  let v32 : BitVec 1 := Scalar.cmpi .slt v28 c0_i32_29
  let v33 : BitVec 1 := Scalar.xori v31 v32
  let c0_i32_27 : BitVec 32 := 0#32
  let v30 : BitVec 1 := Scalar.cmpi .ne v29 c0_i32_27
  let v34 : BitVec 1 := Scalar.andi v33 v30
  let v35 : BitVec 32 := Scalar.addi v29 v28
  let v36 : BitVec 32 := Scalar.select v34 v35 v29
  let c1_i32_31 : BitVec 32 := 1#32
  let v37 : BitVec 32 := Scalar.muli v36 c1_i32_31
  let v38 : BitVec 32 := Scalar.addi c0_i32_32 v37
  v38.toNat
def k0_dev2 (d0 : Dev nD) : Nat :=
  let c0_i32_42 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_33 : BitVec 32 := 2#32
  let v39 : BitVec 32 := Scalar.addi v2 c2_i32_33
  let c4_i32_34 : BitVec 32 := 4#32
  let c0_i32_35 : BitVec 32 := 0#32
  let v40 : BitVec 1 := Scalar.cmpi .eq c4_i32_34 c0_i32_35
  let c1_i32_36 : BitVec 32 := 1#32
  let v41 : BitVec 32 := Scalar.select v40 c1_i32_36 c4_i32_34
  let v42 : BitVec 32 := Scalar.remsi v39 v41
  let c0_i32_38 : BitVec 32 := 0#32
  let v44 : BitVec 1 := Scalar.cmpi .slt v42 c0_i32_38
  let c0_i32_39 : BitVec 32 := 0#32
  let v45 : BitVec 1 := Scalar.cmpi .slt v41 c0_i32_39
  let v46 : BitVec 1 := Scalar.xori v44 v45
  let c0_i32_37 : BitVec 32 := 0#32
  let v43 : BitVec 1 := Scalar.cmpi .ne v42 c0_i32_37
  let v47 : BitVec 1 := Scalar.andi v46 v43
  let v48 : BitVec 32 := Scalar.addi v42 v41
  let v49 : BitVec 32 := Scalar.select v47 v48 v42
  let c1_i32_41 : BitVec 32 := 1#32
  let v50 : BitVec 32 := Scalar.muli v49 c1_i32_41
  let v51 : BitVec 32 := Scalar.addi c0_i32_42 v50
  v51.toNat
def k0_dev3 (d0 : Dev nD) : Nat :=
  let c0_i32_52 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_43 : BitVec 32 := 3#32
  let v52 : BitVec 32 := Scalar.addi v2 c3_i32_43
  let c4_i32_44 : BitVec 32 := 4#32
  let c0_i32_45 : BitVec 32 := 0#32
  let v53 : BitVec 1 := Scalar.cmpi .eq c4_i32_44 c0_i32_45
  let c1_i32_46 : BitVec 32 := 1#32
  let v54 : BitVec 32 := Scalar.select v53 c1_i32_46 c4_i32_44
  let v55 : BitVec 32 := Scalar.remsi v52 v54
  let c0_i32_48 : BitVec 32 := 0#32
  let v57 : BitVec 1 := Scalar.cmpi .slt v55 c0_i32_48
  let c0_i32_49 : BitVec 32 := 0#32
  let v58 : BitVec 1 := Scalar.cmpi .slt v54 c0_i32_49
  let v59 : BitVec 1 := Scalar.xori v57 v58
  let c0_i32_47 : BitVec 32 := 0#32
  let v56 : BitVec 1 := Scalar.cmpi .ne v55 c0_i32_47
  let v60 : BitVec 1 := Scalar.andi v59 v56
  let v61 : BitVec 32 := Scalar.addi v55 v54
  let v62 : BitVec 32 := Scalar.select v60 v61 v55
  let c1_i32_51 : BitVec 32 := 1#32
  let v63 : BitVec 32 := Scalar.muli v62 c1_i32_51
  let v64 : BitVec 32 := Scalar.addi c0_i32_52 v63
  v64.toNat
def k0_dev4 (d0 : Dev nD) : Nat :=
  let c0_i32_84 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_68 : BitVec 32 := 1#32
  let v77 : BitVec 32 := Scalar.addi v2 c1_i32_68
  let c4_i32_69 : BitVec 32 := 4#32
  let c0_i32_70 : BitVec 32 := 0#32
  let v78 : BitVec 1 := Scalar.cmpi .eq c4_i32_69 c0_i32_70
  let c1_i32_71 : BitVec 32 := 1#32
  let v79 : BitVec 32 := Scalar.select v78 c1_i32_71 c4_i32_69
  let v80 : BitVec 32 := Scalar.remsi v77 v79
  let c0_i32_73 : BitVec 32 := 0#32
  let v82 : BitVec 1 := Scalar.cmpi .slt v80 c0_i32_73
  let c0_i32_74 : BitVec 32 := 0#32
  let v83 : BitVec 1 := Scalar.cmpi .slt v79 c0_i32_74
  let v84 : BitVec 1 := Scalar.xori v82 v83
  let c0_i32_72 : BitVec 32 := 0#32
  let v81 : BitVec 1 := Scalar.cmpi .ne v80 c0_i32_72
  let v85 : BitVec 1 := Scalar.andi v84 v81
  let v86 : BitVec 32 := Scalar.addi v80 v79
  let v87 : BitVec 32 := Scalar.select v85 v86 v80
  let c1_i32_83 : BitVec 32 := 1#32
  let v88 : BitVec 32 := Scalar.muli v87 c1_i32_83
  let v89 : BitVec 32 := Scalar.addi c0_i32_84 v88
  v89.toNat
def k0_dev5 (d0 : Dev nD) : Nat :=
  let c0_i32_105 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_89 : BitVec 32 := 2#32
  let v98 : BitVec 32 := Scalar.addi v2 c2_i32_89
  let c4_i32_90 : BitVec 32 := 4#32
  let c0_i32_91 : BitVec 32 := 0#32
  let v99 : BitVec 1 := Scalar.cmpi .eq c4_i32_90 c0_i32_91
  let c1_i32_92 : BitVec 32 := 1#32
  let v100 : BitVec 32 := Scalar.select v99 c1_i32_92 c4_i32_90
  let v101 : BitVec 32 := Scalar.remsi v98 v100
  let c0_i32_94 : BitVec 32 := 0#32
  let v103 : BitVec 1 := Scalar.cmpi .slt v101 c0_i32_94
  let c0_i32_95 : BitVec 32 := 0#32
  let v104 : BitVec 1 := Scalar.cmpi .slt v100 c0_i32_95
  let v105 : BitVec 1 := Scalar.xori v103 v104
  let c0_i32_93 : BitVec 32 := 0#32
  let v102 : BitVec 1 := Scalar.cmpi .ne v101 c0_i32_93
  let v106 : BitVec 1 := Scalar.andi v105 v102
  let v107 : BitVec 32 := Scalar.addi v101 v100
  let v108 : BitVec 32 := Scalar.select v106 v107 v101
  let c1_i32_104 : BitVec 32 := 1#32
  let v109 : BitVec 32 := Scalar.muli v108 c1_i32_104
  let v110 : BitVec 32 := Scalar.addi c0_i32_105 v109
  v110.toNat
def k0_dev6 (d0 : Dev nD) : Nat :=
  let c0_i32_126 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_110 : BitVec 32 := 3#32
  let v119 : BitVec 32 := Scalar.addi v2 c3_i32_110
  let c4_i32_111 : BitVec 32 := 4#32
  let c0_i32_112 : BitVec 32 := 0#32
  let v120 : BitVec 1 := Scalar.cmpi .eq c4_i32_111 c0_i32_112
  let c1_i32_113 : BitVec 32 := 1#32
  let v121 : BitVec 32 := Scalar.select v120 c1_i32_113 c4_i32_111
  let v122 : BitVec 32 := Scalar.remsi v119 v121
  let c0_i32_115 : BitVec 32 := 0#32
  let v124 : BitVec 1 := Scalar.cmpi .slt v122 c0_i32_115
  let c0_i32_116 : BitVec 32 := 0#32
  let v125 : BitVec 1 := Scalar.cmpi .slt v121 c0_i32_116
  let v126 : BitVec 1 := Scalar.xori v124 v125
  let c0_i32_114 : BitVec 32 := 0#32
  let v123 : BitVec 1 := Scalar.cmpi .ne v122 c0_i32_114
  let v127 : BitVec 1 := Scalar.andi v126 v123
  let v128 : BitVec 32 := Scalar.addi v122 v121
  let v129 : BitVec 32 := Scalar.select v127 v128 v122
  let c1_i32_125 : BitVec 32 := 1#32
  let v130 : BitVec 32 := Scalar.muli v129 c1_i32_125
  let v131 : BitVec 32 := Scalar.addi c0_i32_126 v130
  v131.toNat
def k0_dev7 (d0 : Dev nD) : Nat :=
  let c0_i32_161 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_145 : BitVec 32 := 1#32
  let v152 : BitVec 32 := Scalar.addi v2 c1_i32_145
  let c4_i32_146 : BitVec 32 := 4#32
  let c0_i32_147 : BitVec 32 := 0#32
  let v153 : BitVec 1 := Scalar.cmpi .eq c4_i32_146 c0_i32_147
  let c1_i32_148 : BitVec 32 := 1#32
  let v154 : BitVec 32 := Scalar.select v153 c1_i32_148 c4_i32_146
  let v155 : BitVec 32 := Scalar.remsi v152 v154
  let c0_i32_150 : BitVec 32 := 0#32
  let v157 : BitVec 1 := Scalar.cmpi .slt v155 c0_i32_150
  let c0_i32_151 : BitVec 32 := 0#32
  let v158 : BitVec 1 := Scalar.cmpi .slt v154 c0_i32_151
  let v159 : BitVec 1 := Scalar.xori v157 v158
  let c0_i32_149 : BitVec 32 := 0#32
  let v156 : BitVec 1 := Scalar.cmpi .ne v155 c0_i32_149
  let v160 : BitVec 1 := Scalar.andi v159 v156
  let v161 : BitVec 32 := Scalar.addi v155 v154
  let v162 : BitVec 32 := Scalar.select v160 v161 v155
  let c1_i32_160 : BitVec 32 := 1#32
  let v163 : BitVec 32 := Scalar.muli v162 c1_i32_160
  let v164 : BitVec 32 := Scalar.addi c0_i32_161 v163
  v164.toNat
def k0_dev8 (d0 : Dev nD) : Nat :=
  let c0_i32_182 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_166 : BitVec 32 := 2#32
  let v173 : BitVec 32 := Scalar.addi v2 c2_i32_166
  let c4_i32_167 : BitVec 32 := 4#32
  let c0_i32_168 : BitVec 32 := 0#32
  let v174 : BitVec 1 := Scalar.cmpi .eq c4_i32_167 c0_i32_168
  let c1_i32_169 : BitVec 32 := 1#32
  let v175 : BitVec 32 := Scalar.select v174 c1_i32_169 c4_i32_167
  let v176 : BitVec 32 := Scalar.remsi v173 v175
  let c0_i32_171 : BitVec 32 := 0#32
  let v178 : BitVec 1 := Scalar.cmpi .slt v176 c0_i32_171
  let c0_i32_172 : BitVec 32 := 0#32
  let v179 : BitVec 1 := Scalar.cmpi .slt v175 c0_i32_172
  let v180 : BitVec 1 := Scalar.xori v178 v179
  let c0_i32_170 : BitVec 32 := 0#32
  let v177 : BitVec 1 := Scalar.cmpi .ne v176 c0_i32_170
  let v181 : BitVec 1 := Scalar.andi v180 v177
  let v182 : BitVec 32 := Scalar.addi v176 v175
  let v183 : BitVec 32 := Scalar.select v181 v182 v176
  let c1_i32_181 : BitVec 32 := 1#32
  let v184 : BitVec 32 := Scalar.muli v183 c1_i32_181
  let v185 : BitVec 32 := Scalar.addi c0_i32_182 v184
  v185.toNat
def k0_dev9 (d0 : Dev nD) : Nat :=
  let c0_i32_203 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_187 : BitVec 32 := 3#32
  let v194 : BitVec 32 := Scalar.addi v2 c3_i32_187
  let c4_i32_188 : BitVec 32 := 4#32
  let c0_i32_189 : BitVec 32 := 0#32
  let v195 : BitVec 1 := Scalar.cmpi .eq c4_i32_188 c0_i32_189
  let c1_i32_190 : BitVec 32 := 1#32
  let v196 : BitVec 32 := Scalar.select v195 c1_i32_190 c4_i32_188
  let v197 : BitVec 32 := Scalar.remsi v194 v196
  let c0_i32_192 : BitVec 32 := 0#32
  let v199 : BitVec 1 := Scalar.cmpi .slt v197 c0_i32_192
  let c0_i32_193 : BitVec 32 := 0#32
  let v200 : BitVec 1 := Scalar.cmpi .slt v196 c0_i32_193
  let v201 : BitVec 1 := Scalar.xori v199 v200
  let c0_i32_191 : BitVec 32 := 0#32
  let v198 : BitVec 1 := Scalar.cmpi .ne v197 c0_i32_191
  let v202 : BitVec 1 := Scalar.andi v201 v198
  let v203 : BitVec 32 := Scalar.addi v197 v196
  let v204 : BitVec 32 := Scalar.select v202 v203 v197
  let c1_i32_202 : BitVec 32 := 1#32
  let v205 : BitVec 32 := Scalar.muli v204 c1_i32_202
  let v206 : BitVec 32 := Scalar.addi c0_i32_203 v205
  v206.toNat
def k0_dev10 (d0 : Dev nD) : Nat :=
  let c0_i32_238 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_222 : BitVec 32 := 1#32
  let v227 : BitVec 32 := Scalar.addi v2 c1_i32_222
  let c4_i32_223 : BitVec 32 := 4#32
  let c0_i32_224 : BitVec 32 := 0#32
  let v228 : BitVec 1 := Scalar.cmpi .eq c4_i32_223 c0_i32_224
  let c1_i32_225 : BitVec 32 := 1#32
  let v229 : BitVec 32 := Scalar.select v228 c1_i32_225 c4_i32_223
  let v230 : BitVec 32 := Scalar.remsi v227 v229
  let c0_i32_227 : BitVec 32 := 0#32
  let v232 : BitVec 1 := Scalar.cmpi .slt v230 c0_i32_227
  let c0_i32_228 : BitVec 32 := 0#32
  let v233 : BitVec 1 := Scalar.cmpi .slt v229 c0_i32_228
  let v234 : BitVec 1 := Scalar.xori v232 v233
  let c0_i32_226 : BitVec 32 := 0#32
  let v231 : BitVec 1 := Scalar.cmpi .ne v230 c0_i32_226
  let v235 : BitVec 1 := Scalar.andi v234 v231
  let v236 : BitVec 32 := Scalar.addi v230 v229
  let v237 : BitVec 32 := Scalar.select v235 v236 v230
  let c1_i32_237 : BitVec 32 := 1#32
  let v238 : BitVec 32 := Scalar.muli v237 c1_i32_237
  let v239 : BitVec 32 := Scalar.addi c0_i32_238 v238
  v239.toNat
def k0_dev11 (d0 : Dev nD) : Nat :=
  let c0_i32_259 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_243 : BitVec 32 := 2#32
  let v248 : BitVec 32 := Scalar.addi v2 c2_i32_243
  let c4_i32_244 : BitVec 32 := 4#32
  let c0_i32_245 : BitVec 32 := 0#32
  let v249 : BitVec 1 := Scalar.cmpi .eq c4_i32_244 c0_i32_245
  let c1_i32_246 : BitVec 32 := 1#32
  let v250 : BitVec 32 := Scalar.select v249 c1_i32_246 c4_i32_244
  let v251 : BitVec 32 := Scalar.remsi v248 v250
  let c0_i32_248 : BitVec 32 := 0#32
  let v253 : BitVec 1 := Scalar.cmpi .slt v251 c0_i32_248
  let c0_i32_249 : BitVec 32 := 0#32
  let v254 : BitVec 1 := Scalar.cmpi .slt v250 c0_i32_249
  let v255 : BitVec 1 := Scalar.xori v253 v254
  let c0_i32_247 : BitVec 32 := 0#32
  let v252 : BitVec 1 := Scalar.cmpi .ne v251 c0_i32_247
  let v256 : BitVec 1 := Scalar.andi v255 v252
  let v257 : BitVec 32 := Scalar.addi v251 v250
  let v258 : BitVec 32 := Scalar.select v256 v257 v251
  let c1_i32_258 : BitVec 32 := 1#32
  let v259 : BitVec 32 := Scalar.muli v258 c1_i32_258
  let v260 : BitVec 32 := Scalar.addi c0_i32_259 v259
  v260.toNat
def k0_dev12 (d0 : Dev nD) : Nat :=
  let c0_i32_280 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_264 : BitVec 32 := 3#32
  let v269 : BitVec 32 := Scalar.addi v2 c3_i32_264
  let c4_i32_265 : BitVec 32 := 4#32
  let c0_i32_266 : BitVec 32 := 0#32
  let v270 : BitVec 1 := Scalar.cmpi .eq c4_i32_265 c0_i32_266
  let c1_i32_267 : BitVec 32 := 1#32
  let v271 : BitVec 32 := Scalar.select v270 c1_i32_267 c4_i32_265
  let v272 : BitVec 32 := Scalar.remsi v269 v271
  let c0_i32_269 : BitVec 32 := 0#32
  let v274 : BitVec 1 := Scalar.cmpi .slt v272 c0_i32_269
  let c0_i32_270 : BitVec 32 := 0#32
  let v275 : BitVec 1 := Scalar.cmpi .slt v271 c0_i32_270
  let v276 : BitVec 1 := Scalar.xori v274 v275
  let c0_i32_268 : BitVec 32 := 0#32
  let v273 : BitVec 1 := Scalar.cmpi .ne v272 c0_i32_268
  let v277 : BitVec 1 := Scalar.andi v276 v273
  let v278 : BitVec 32 := Scalar.addi v272 v271
  let v279 : BitVec 32 := Scalar.select v277 v278 v272
  let c1_i32_279 : BitVec 32 := 1#32
  let v280 : BitVec 32 := Scalar.muli v279 c1_i32_279
  let v281 : BitVec 32 := Scalar.addi c0_i32_280 v280
  v281.toNat
def k0_dev13 (d0 : Dev nD) : Nat :=
  let c0_i32_315 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_299 : BitVec 32 := 1#32
  let v302 : BitVec 32 := Scalar.addi v2 c1_i32_299
  let c4_i32_300 : BitVec 32 := 4#32
  let c0_i32_301 : BitVec 32 := 0#32
  let v303 : BitVec 1 := Scalar.cmpi .eq c4_i32_300 c0_i32_301
  let c1_i32_302 : BitVec 32 := 1#32
  let v304 : BitVec 32 := Scalar.select v303 c1_i32_302 c4_i32_300
  let v305 : BitVec 32 := Scalar.remsi v302 v304
  let c0_i32_304 : BitVec 32 := 0#32
  let v307 : BitVec 1 := Scalar.cmpi .slt v305 c0_i32_304
  let c0_i32_305 : BitVec 32 := 0#32
  let v308 : BitVec 1 := Scalar.cmpi .slt v304 c0_i32_305
  let v309 : BitVec 1 := Scalar.xori v307 v308
  let c0_i32_303 : BitVec 32 := 0#32
  let v306 : BitVec 1 := Scalar.cmpi .ne v305 c0_i32_303
  let v310 : BitVec 1 := Scalar.andi v309 v306
  let v311 : BitVec 32 := Scalar.addi v305 v304
  let v312 : BitVec 32 := Scalar.select v310 v311 v305
  let c1_i32_314 : BitVec 32 := 1#32
  let v313 : BitVec 32 := Scalar.muli v312 c1_i32_314
  let v314 : BitVec 32 := Scalar.addi c0_i32_315 v313
  v314.toNat
def k0_dev14 (d0 : Dev nD) : Nat :=
  let c0_i32_336 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_320 : BitVec 32 := 2#32
  let v323 : BitVec 32 := Scalar.addi v2 c2_i32_320
  let c4_i32_321 : BitVec 32 := 4#32
  let c0_i32_322 : BitVec 32 := 0#32
  let v324 : BitVec 1 := Scalar.cmpi .eq c4_i32_321 c0_i32_322
  let c1_i32_323 : BitVec 32 := 1#32
  let v325 : BitVec 32 := Scalar.select v324 c1_i32_323 c4_i32_321
  let v326 : BitVec 32 := Scalar.remsi v323 v325
  let c0_i32_325 : BitVec 32 := 0#32
  let v328 : BitVec 1 := Scalar.cmpi .slt v326 c0_i32_325
  let c0_i32_326 : BitVec 32 := 0#32
  let v329 : BitVec 1 := Scalar.cmpi .slt v325 c0_i32_326
  let v330 : BitVec 1 := Scalar.xori v328 v329
  let c0_i32_324 : BitVec 32 := 0#32
  let v327 : BitVec 1 := Scalar.cmpi .ne v326 c0_i32_324
  let v331 : BitVec 1 := Scalar.andi v330 v327
  let v332 : BitVec 32 := Scalar.addi v326 v325
  let v333 : BitVec 32 := Scalar.select v331 v332 v326
  let c1_i32_335 : BitVec 32 := 1#32
  let v334 : BitVec 32 := Scalar.muli v333 c1_i32_335
  let v335 : BitVec 32 := Scalar.addi c0_i32_336 v334
  v335.toNat
def k0_dev15 (d0 : Dev nD) : Nat :=
  let c0_i32_357 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_341 : BitVec 32 := 3#32
  let v344 : BitVec 32 := Scalar.addi v2 c3_i32_341
  let c4_i32_342 : BitVec 32 := 4#32
  let c0_i32_343 : BitVec 32 := 0#32
  let v345 : BitVec 1 := Scalar.cmpi .eq c4_i32_342 c0_i32_343
  let c1_i32_344 : BitVec 32 := 1#32
  let v346 : BitVec 32 := Scalar.select v345 c1_i32_344 c4_i32_342
  let v347 : BitVec 32 := Scalar.remsi v344 v346
  let c0_i32_346 : BitVec 32 := 0#32
  let v349 : BitVec 1 := Scalar.cmpi .slt v347 c0_i32_346
  let c0_i32_347 : BitVec 32 := 0#32
  let v350 : BitVec 1 := Scalar.cmpi .slt v346 c0_i32_347
  let v351 : BitVec 1 := Scalar.xori v349 v350
  let c0_i32_345 : BitVec 32 := 0#32
  let v348 : BitVec 1 := Scalar.cmpi .ne v347 c0_i32_345
  let v352 : BitVec 1 := Scalar.andi v351 v348
  let v353 : BitVec 32 := Scalar.addi v347 v346
  let v354 : BitVec 32 := Scalar.select v352 v353 v347
  let c1_i32_356 : BitVec 32 := 1#32
  let v355 : BitVec 32 := Scalar.muli v354 c1_i32_356
  let v356 : BitVec 32 := Scalar.addi c0_i32_357 v355
  v356.toNat
abbrev stage0_0 : Fin 1 → Memref sig .tc .vmem S4x512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4x512x1024 : Shape := ⟨3, ![4, 512, 1024]⟩
abbrev S4x128 : Shape := ⟨2, ![4, 128]⟩
abbrev S128x1024 : Shape := ⟨2, ![128, 1024]⟩
abbrev S_ : Shape := ⟨0, ![]⟩
abbrev S4x512 : Shape := ⟨2, ![4, 512]⟩
abbrev S4x512x1 : Shape := ⟨3, ![4, 512, 1]⟩
abbrev S4x1024 : Shape := ⟨2, ![4, 1024]⟩
abbrev S4x1x1024 : Shape := ⟨3, ![4, 1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4x512x1024, .f32⟩
  | .hbm, ⟨1, _⟩ => ⟨S4x128, .f32⟩
  | .hbm, ⟨2, _⟩ => ⟨S128x1024, .f32⟩
  | .hbm, ⟨3, _⟩ => ⟨S128x1024, .f32⟩
  | .hbm, ⟨4, _⟩ => ⟨S_, .f32⟩
  | .hbm, ⟨5, _⟩ => ⟨S4x512, .f32⟩
  | .hbm, ⟨6, _⟩ => ⟨S4x512x1, .f32⟩
  | .hbm, ⟨7, _⟩ => ⟨S_, .f32⟩
  | .hbm, ⟨8, _⟩ => ⟨S4x512x1, .f32⟩
  | .hbm, ⟨9, _⟩ => ⟨S4x512x1, .f32⟩
  | .hbm, ⟨10, _⟩ => ⟨S_, .i32⟩
  | .hbm, ⟨11, _⟩ => ⟨S_, .f32⟩
  | .hbm, ⟨12, _⟩ => ⟨S4x512, .f32⟩
  | .hbm, ⟨13, _⟩ => ⟨S4x512x1, .f32⟩
  | .hbm, ⟨14, _⟩ => ⟨S_, .f32⟩
  | .hbm, ⟨15, _⟩ => ⟨S4x512x1, .f32⟩
  | .hbm, ⟨16, _⟩ => ⟨S4x512x1, .f32⟩
  | .hbm, ⟨17, _⟩ => ⟨S4x512x1024, .f32⟩
  | .hbm, ⟨18, _⟩ => ⟨S4x512x1024, .f32⟩
  | .hbm, ⟨19, _⟩ => ⟨S4x512x1024, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S4x512, .f32⟩
  | .hbm, ⟨25, _⟩ => ⟨S4x512x1, .f32⟩
  | .hbm, ⟨26, _⟩ => ⟨S4x512x1, .f32⟩
  | .hbm, ⟨27, _⟩ => ⟨S4x512x1, .f32⟩
  | .hbm, ⟨28, _⟩ => ⟨S_, .f32⟩
  | .hbm, ⟨29, _⟩ => ⟨S_, .i1⟩
  | .hbm, ⟨30, _⟩ => ⟨S_, .f32⟩
  | .hbm, ⟨31, _⟩ => ⟨S_, .f32⟩
  | .hbm, ⟨32, _⟩ => ⟨S4x512x1, .f32⟩
  | .hbm, ⟨33, _⟩ => ⟨S4x512x1, .f32⟩
  | .hbm, ⟨34, _⟩ => ⟨S4x512x1024, .f32⟩
  | .hbm, ⟨35, _⟩ => ⟨S4x512x1024, .f32⟩
  | .hbm, ⟨36, _⟩ => ⟨S_, .f32⟩
  | .hbm, ⟨37, _⟩ => ⟨S4x512x1, .f32⟩
  | .hbm, ⟨38, _⟩ => ⟨S4x512x1, .f32⟩
  | .hbm, ⟨39, _⟩ => ⟨S4x512x1, .f32⟩
  | .hbm, ⟨40, _⟩ => ⟨S4x512x1024, .f32⟩
  | .hbm, ⟨41, _⟩ => ⟨S4x512x1024, .f32⟩
  | .hbm, ⟨42, _⟩ => ⟨S4x1024, .f32⟩
  | .hbm, ⟨43, _⟩ => ⟨S4x1024, .f32⟩
  | .hbm, ⟨44, _⟩ => ⟨S4x1x1024, .f32⟩
  | .hbm, ⟨45, _⟩ => ⟨S_, .f32⟩
  | .hbm, ⟨46, _⟩ => ⟨S4x1x1024, .f32⟩
  | .hbm, ⟨47, _⟩ => ⟨S4x1x1024, .f32⟩
  | .hbm, ⟨48, _⟩ => ⟨S4x512x1024, .f32⟩
  | .hbm, ⟨49, _⟩ => ⟨S4x512x1024, .f32⟩
  | .hbm, ⟨50, _⟩ => ⟨S4x1x1024, .f32⟩
  | .hbm, ⟨51, _⟩ => ⟨S4x512x1024, .f32⟩
  | .hbm, ⟨52, _⟩ => ⟨S4x512x1024, .f32⟩
  | .hbm, ⟨53, _⟩ => ⟨S4x512x1024, .bf16⟩
  | _, _ => ⟨S4x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_cst_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_cst_1 : Ref sig .tc := ⟨.hbm, 21, rfl⟩
abbrev main_call0_v8 : Ref sig .tc := ⟨.hbm, 22, rfl⟩
abbrev main_call0_cst_2 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_cst_3 : Ref sig .tc := ⟨.hbm, 28, rfl⟩
abbrev main_call0_v13 : Ref sig .tc := ⟨.hbm, 29, rfl⟩
abbrev main_call0_cst_4 : Ref sig .tc := ⟨.hbm, 30, rfl⟩
abbrev main_call0_call0_v0 : Ref sig .tc := ⟨.hbm, 31, rfl⟩
abbrev main_call0_call0_v1 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_cst_1 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst_2 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩

abbrev nD : Nat := 1
abbrev τ : Topo := Topo.v7x

variable {F : FTy → Type} [FloatOps F]
-- ==== Proof.Slots.lean ====
/-
# Adaptive layer norm over channels cut on four devices: the kernel's places and what they hold

Each device holds a quarter of the channels. It sums its quarter of every row, and the squares, per slice of 128
rows, and sends the two vectors of sums to the three other devices. This module names the places the proof speaks
about: the peers of a device, the slots of the exchange buffer, the row slices of the activations and of the result,
the semaphores; and the contents they come to hold.
-/
module

public import proofs.«01_k».proof.Proof.Gen.KernelIdeal.Skeleton
public import proofs.«01_k».proof.Proof.Gen.KernelIdeal.Frame
public import Idealize.ShloMosaic.Lib.Pipeline.Launch
public import Idealize.ShloMosaic.Lib.Pipeline.Kit
public import Idealize.ShloMosaic.Lib.Pointwise.Index
public import Idealize.ShloMosaic.Lib.Pipeline.ValueKit.Geometry
public import Idealize.ShloMosaic.Lib.Tactic
public import Mathlib.Tactic.IntervalCases

@[expose] public section

noncomputable section

namespace Cert.AdaLN

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Devices -/

set_option backward.proofsInPublic true in
/-- The device `d` places after `c` on the ring of four. -/
def peer (c : Dev nD) (d : ℕ) : Dev nD := ⟨(c.val + d) % 4, Nat.mod_lt _ (by decide)⟩

set_option backward.proofsInPublic true in
/-- The device `d` places before `c` on the ring of four, `d` at most 4. -/
def back (c : Dev nD) (d : ℕ) : Dev nD := ⟨(c.val + (4 - d)) % 4, Nat.mod_lt _ (by decide)⟩

/-- Going ahead and back is staying, -/
theorem back_peer (c : Dev nD) {d : ℕ} (hd : d < 4) : back (peer c d) d = c := by
  apply Fin.ext; have := c.isLt; simp only [back, peer, nD] at *; omega
/-- and so is going back and ahead. -/
theorem peer_back (c : Dev nD) {d : ℕ} (hd : d < 4) : peer (back c d) d = c := by
  apply Fin.ext; have := c.isLt; simp only [back, peer, nD] at *; omega
/-- No device back is the device itself. -/
theorem back_zero (c : Dev nD) : back c 0 = c := by
  apply Fin.ext; have := c.isLt; simp only [back, nD] at *; omega
/-- Going `d` places on and then the other `4 - d` closes the ring. -/
theorem peer_peer (c : Dev nD) {d e : ℕ} (h : d + e = 4) : peer (peer c d) e = c := by
  apply Fin.ext; have := c.isLt; simp only [peer, nD] at *; omega

/-- The devices that the body's remote operations name are its peers one, two and three ahead: the three signals' first, then the copies' of each round. -/
theorem dev1_eq (c : Dev nD) : (⟨k0_dev1 c, k0_dev1_lt c⟩ : Dev nD) = peer c 1 := by revert c; decide +kernel
theorem dev2_eq (c : Dev nD) : (⟨k0_dev2 c, k0_dev2_lt c⟩ : Dev nD) = peer c 2 := by revert c; decide +kernel
theorem dev3_eq (c : Dev nD) : (⟨k0_dev3 c, k0_dev3_lt c⟩ : Dev nD) = peer c 3 := by revert c; decide +kernel
theorem dev4_eq (c : Dev nD) : (⟨k0_dev4 c, k0_dev4_lt c⟩ : Dev nD) = peer c 1 := by revert c; decide +kernel
theorem dev5_eq (c : Dev nD) : (⟨k0_dev5 c, k0_dev5_lt c⟩ : Dev nD) = peer c 2 := by revert c; decide +kernel
theorem dev6_eq (c : Dev nD) : (⟨k0_dev6 c, k0_dev6_lt c⟩ : Dev nD) = peer c 3 := by revert c; decide +kernel
theorem dev7_eq (c : Dev nD) : (⟨k0_dev7 c, k0_dev7_lt c⟩ : Dev nD) = peer c 1 := by revert c; decide +kernel
theorem dev8_eq (c : Dev nD) : (⟨k0_dev8 c, k0_dev8_lt c⟩ : Dev nD) = peer c 2 := by revert c; decide +kernel
theorem dev9_eq (c : Dev nD) : (⟨k0_dev9 c, k0_dev9_lt c⟩ : Dev nD) = peer c 3 := by revert c; decide +kernel
theorem dev10_eq (c : Dev nD) : (⟨k0_dev10 c, k0_dev10_lt c⟩ : Dev nD) = peer c 1 := by revert c; decide +kernel
theorem dev11_eq (c : Dev nD) : (⟨k0_dev11 c, k0_dev11_lt c⟩ : Dev nD) = peer c 2 := by revert c; decide +kernel
theorem dev12_eq (c : Dev nD) : (⟨k0_dev12 c, k0_dev12_lt c⟩ : Dev nD) = peer c 3 := by revert c; decide +kernel
theorem dev13_eq (c : Dev nD) : (⟨k0_dev13 c, k0_dev13_lt c⟩ : Dev nD) = peer c 1 := by revert c; decide +kernel
theorem dev14_eq (c : Dev nD) : (⟨k0_dev14 c, k0_dev14_lt c⟩ : Dev nD) = peer c 2 := by revert c; decide +kernel
theorem dev15_eq (c : Dev nD) : (⟨k0_dev15 c, k0_dev15_lt c⟩ : Dev nD) = peer c 3 := by revert c; decide +kernel

/-! ## Semaphores -/

/-- The runtime's barrier semaphore. -/
abbrev barS : Sem sig := (SemArray.scalar (sig.barrier 0 rfl) : Sems sig S_).sem

set_option backward.proofsInPublic true in
/-- The DMA semaphore at place `n` of the pool. -/
def dsem (n : ℕ) : DmaSem sig := ⟨n % 32, Nat.mod_lt _ (by decide)⟩

/-- The semaphore of entry `(r, k)` of the send table, as the program reads it. -/
theorem sendSem_eq (r k : ℕ) (h) : ((cc0_scratch6.slice (Rect.unit (s := S4x3) ![r, k] S1x1.size h)).squeeze S_ squeezes_S1x1_S_).sem = dsem (8 + (3 * r + k)) := by
  have h0 : r + 1 ≤ 4 := h 0
  have h1 : k + 1 ≤ 3 := h 1
  have hr : r < 4 := by omega
  have hk : k < 3 := by omega
  interval_cases r <;> interval_cases k <;> (revert h; decide +kernel)
/-- The semaphore of entry `(r, k)` of the receive table, as the program reads it. -/
theorem recvSem_eq (r k : ℕ) (h) : ((cc0_scratch7.slice (Rect.unit (s := S4x3) ![r, k] S1x1.size h)).squeeze S_ squeezes_S1x1_S_).sem = dsem (20 + (3 * r + k)) := by
  have h0 : r + 1 ≤ 4 := h 0
  have h1 : k + 1 ≤ 3 := h 1
  have hr : r < 4 := by omega
  have hk : k < 3 := by omega
  interval_cases r <;> interval_cases k <;> (revert h; decide +kernel)
/-- The semaphore of entry `i` of the table of the local copies, as the program reads it. -/
theorem inSem_eq (i : ℕ) (h) : ((cc0_scratch5.slice (Rect.unit (s := S7) ![i] S1.size h)).squeeze S_ squeezes_S1_S_).sem = dsem (1 + i) := by
  have h0 : i + 1 ≤ 7 := h 0
  have hi : i < 7 := by omega
  interval_cases i <;> (revert h; decide +kernel)

/-! ## The exchange buffer: slot `(r, d)` is for the sums of slice `r` of the device `d` places before -/

/-- The exchange buffer. -/
abbrev commM : Memref sig .tc .vmem S4x4x8x128 .f32 := Memref.whole cc0_scratch4

/-- A slot lies within the exchange buffer. -/
theorem slotInb {r d : ℕ} (hr : r < 4) (hd : d < 4) : ∀ a, (![r, d, 0, 0] : Fin 4 → Nat) a + S1x1x8x128.size a ≤ S4x4x8x128.size a := by
  interval_cases r <;> interval_cases d <;> decide

/-- Slot `(r, d)` as a rectangle of the exchange buffer. -/
abbrev slotR (r d : ℕ) (h : ∀ a, (![r, d, 0, 0] : Fin 4 → Nat) a + S1x1x8x128.size a ≤ S4x4x8x128.size a) : Rect S4x4x8x128 :=
  Rect.unit (s := S4x4x8x128) ![r, d, 0, 0] S1x1x8x128.size h

/-- Slot `(r, d)` as the transfers name it. -/
abbrev slotM (r d : ℕ) (h : ∀ a, (![r, d, 0, 0] : Fin 4 → Nat) a + S1x1x8x128.size a ≤ S4x4x8x128.size a) : Memref sig .tc .vmem S8x128 .f32 :=
  (commM.slice (slotR r d h) (fun _ => rfl)).squeeze S8x128 squeezes_S1x1x8x128_S8x128

/-- The elements of slot `(r, d)`. -/
def slotSet (r d : ℕ) : Finset S4x4x8x128.Idx := Finset.univ.filter fun i => (i 0).val = r ∧ (i 1).val = d

/-- An element is in a slot if its first two coordinates are the slot's. -/
theorem mem_slotSet {r d : ℕ} {i : S4x4x8x128.Idx} : i ∈ slotSet r d ↔ (i 0).val = r ∧ (i 1).val = d := by
  unfold slotSet; simp only [Finset.mem_filter, Finset.mem_univ, true_and]

/-- The rectangle of a slot has the slot's elements, -/
theorem slotR_set (r d : ℕ) (h) : (slotR r d h).set = slotSet r d := by
  ext i
  rw [Rect.mem_set_unit, mem_slotSet]
  constructor
  · intro hi
    have h0 := hi 0
    have h1 := hi 1
    simp [S1x1x8x128] at h0 h1
    omega
  · rintro ⟨h0, h1⟩ a
    have h2 := (i 2).isLt
    have h3 := (i 3).isLt
    fin_cases a <;> simp [S1x1x8x128, S4x4x8x128] at h2 h3 ⊢ <;> omega

/-- and so has the buffer's view through it. -/
theorem slotM_set (r d : ℕ) (h) : (slotM r d h).view.set = slotSet r d := by
  rw [← slotR_set r d h]
  exact (View.set_reshape _ _).trans (View.set_slice_whole _ _)

/-- Where an element of a slot's rectangle lies in the buffer. -/
theorem slotR_emb (r d : ℕ) (h) (j : S1x1x8x128.Idx) :
    ((slotR r d h).emb j 0).val = r ∧ ((slotR r d h).emb j 1).val = d ∧ (slotR r d h).emb j 2 = j 2 ∧ (slotR r d h).emb j 3 = j 3 := by
  have h0 : (j 0).val < 1 := (j 0).isLt
  have h1 : (j 1).val < 1 := (j 1).isLt
  refine ⟨?_, ?_, Fin.ext ?_, Fin.ext ?_⟩
  · refine (ValueKit.rect_emb_unit_val (s := S4x4x8x128) _ _ h j 0).trans ?_
    show r + (j 0).val = r; omega
  · refine (ValueKit.rect_emb_unit_val (s := S4x4x8x128) _ _ h j 1).trans ?_
    show d + (j 1).val = d; omega
  · refine (ValueKit.rect_emb_unit_val (s := S4x4x8x128) _ _ h j 2).trans ?_
    show 0 + (j 2).val = _; omega
  · refine (ValueKit.rect_emb_unit_val (s := S4x4x8x128) _ _ h j 3).trans ?_
    show 0 + (j 3).val = _; omega

/-! ## The activations and the result: slice `r` is the rows `128 r …` -/

/-- Rows `o … o + 127` of every batch element. -/
abbrev rowR (o : ℕ) (h : ∀ a, (![0, o, 0] : Fin 3 → Nat) a + S4x128x256.size a ≤ S4x512x256.size a) : Rect S4x512x256 :=
  Rect.unit (s := S4x512x256) ![0, o, 0] S4x128x256.size h

/-- The elements of row slice `r`. -/
def rowSet (r : ℕ) : Finset S4x512x256.Idx := Finset.univ.filter fun i => (i 1).val / 128 = r

/-- An element is in row slice `r` if its row is. -/
theorem mem_rowSet {r : ℕ} {i : S4x512x256.Idx} : i ∈ rowSet r ↔ (i 1).val / 128 = r := by
  unfold rowSet; simp only [Finset.mem_filter, Finset.mem_univ, true_and]

/-- The rectangle of a row slice has the slice's elements. -/
theorem rowR_set (r : ℕ) {o : ℕ} (ho : o = 128 * r) (h) : (rowR o h).set = rowSet r := by
  ext i
  rw [Rect.mem_set_unit, mem_rowSet]
  constructor
  · intro hi
    have h1 := hi 1
    simp [S4x128x256] at h1
    omega
  · intro h1 a
    have h0 := (i 0).isLt
    have h2 := (i 2).isLt
    fin_cases a <;> simp [S4x128x256, S4x512x256] at h0 h2 ⊢ <;> omega

/-- Where an element of a row slice's rectangle lies in the array. -/
theorem rowR_emb {r o : ℕ} (ho : o = 128 * r) (h) (j : S4x128x256.Idx) :
    (rowR o h).emb j 0 = j 0 ∧ ((rowR o h).emb j 1).val = 128 * r + (j 1).val ∧ (rowR o h).emb j 2 = j 2 := by
  refine ⟨Fin.ext ?_, ?_, Fin.ext ?_⟩
  · refine (ValueKit.rect_emb_unit_val (s := S4x512x256) _ _ h j 0).trans ?_
    show 0 + (j 0).val = _; omega
  · refine (ValueKit.rect_emb_unit_val (s := S4x512x256) _ _ h j 1).trans ?_
    show o + (j 1).val = _; omega
  · refine (ValueKit.rect_emb_unit_val (s := S4x512x256) _ _ h j 2).trans ?_
    show 0 + (j 2).val = _; omega

/-! ## Contents -/

variable (m : (ℓ : Loc nD τ sig) → Buf (Elt F) ℓ)

/-- Device `c`'s quarter of the activations, as launched. -/
def xin (c : Dev nD) : S4x512x256.Idx → Elt F .f32 := m ((c : Thread nD τ).loc main_arg0)
/-- Device `c`'s time embedding, as launched. -/
def tin (c : Dev nD) : S4x128.Idx → Elt F .f32 := m ((c : Thread nD τ).loc main_arg1)
/-- Device `c`'s quarter of the scale weights, as launched. -/
def wsin (c : Dev nD) : S128x256.Idx → Elt F .f32 := m ((c : Thread nD τ).loc main_arg2)
/-- Device `c`'s quarter of the shift weights, as launched. -/
def wshin (c : Dev nD) : S128x256.Idx → Elt F .f32 := m ((c : Thread nD τ).loc main_arg3)

set_option backward.proofsInPublic true in
/-- Row slice `r` of device `c`'s activations. -/
def xrow (c : Dev nD) (r : ℕ) : Vec F S4x128x256 .f32 := fun j =>
  xin m c (ix3 (j 0) ⟨(128 * r + (j 1).val) % 512, Nat.mod_lt _ (by decide)⟩ (j 2))

/-- The sums, and the sums of squares, over device `c`'s channels of row slice `r`. -/
def stat (c : Dev nD) (r : ℕ) : FVec F S1x1x8x128 .f32 := k0_pay1 (xrow m c r)

/-- What device `c`'s exchange buffer holds once everything has arrived. -/
def commBuf (c : Dev nD) : S4x4x8x128.Idx → Elt F .f32 := fun i => stat m (back c (i 1).val) (i 0).val (ix4 0 0 (i 2) (i 3))

/-- One plus the scale, and the shift, of device `c`'s channels: one pair of vectors per batch element. -/
def scale (c : Dev nD) : FVec F S4x256 .bf16 := k0_pay7 (tin m c) (wsin m c)
/-- Device `c`'s shift. -/
def shift (c : Dev nD) : FVec F S4x256 .bf16 := k0_pay8 (tin m c) (wshin m c)

/-- Row slice `r` of device `c`'s result. -/
def outRow (c : Dev nD) (r : ℕ) : FVec F S4x128x256 .bf16 :=
  k0_pay14 (xrow m c r) (scale m c) (shift m c) (stat m c r) (stat m (back c 1) r) (stat m (back c 2) r) (stat m (back c 3) r)

set_option backward.proofsInPublic true in
/-- Device `c`'s result. -/
def outAt (c : Dev nD) : S4x512x256.Idx → Elt F .bf16 := fun i =>
  outRow m c ((i 1).val / 128) (ix3 (i 0) ⟨(i 1).val % 128, Nat.mod_lt _ (by decide)⟩ (i 2))

/-! ### The contents at the rectangles' elements -/

/-- The activations at a row slice's element, -/
theorem xin_emb (c : Dev nD) {r o : ℕ} (ho : o = 128 * r) (h) (hr : r < 4) (j : S4x128x256.Idx) : xin m c ((rowR o h).emb j) = xrow m c r j := by
  unfold xrow
  obtain ⟨h0, h1, h2⟩ := rowR_emb ho h j
  congr 1
  have hj : (j 1).val < 128 := (j 1).isLt
  funext a
  match a with
  | ⟨0, _⟩ => exact h0
  | ⟨1, _⟩ => refine Fin.ext (h1.trans ?_); show _ = (128 * r + (j 1).val) % 512; omega
  | ⟨2, _⟩ => exact h2

/-- the exchange buffer's end contents at a slot's element, -/
theorem commBuf_emb (c : Dev nD) (r d : ℕ) (h) (j : S1x1x8x128.Idx) : commBuf m c ((slotR r d h).emb j) = stat m (back c d) r j := by
  obtain ⟨h0, h1, h2, h3⟩ := slotR_emb r d h j
  unfold commBuf
  rw [h0, h1, h2, h3]
  congr 1
  funext a
  match a with
  | ⟨0, _⟩ => exact (Fin.ext (by have := (j 0).isLt; change (j 0).val < 1 at this; show 0 = (j 0).val; omega))
  | ⟨1, _⟩ => exact (Fin.ext (by have := (j 1).isLt; change (j 1).val < 1 at this; show 0 = (j 1).val; omega))
  | ⟨2, _⟩ => rfl
  | ⟨3, _⟩ => rfl

/-- and the result at a row slice's element. -/
theorem outAt_emb (c : Dev nD) {r o : ℕ} (ho : o = 128 * r) (h) (j : S4x128x256.Idx) : outAt m c ((rowR o h).emb j) = outRow m c r j := by
  obtain ⟨h0, h1, h2⟩ := rowR_emb ho h j
  have hj : (j 1).val < 128 := (j 1).isLt
  unfold outAt
  have e1 : ((rowR o h).emb j 1).val / 128 = r := by rw [h1]; omega
  rw [e1]
  congr 1
  funext a
  match a with
  | ⟨0, _⟩ => exact h0
  | ⟨1, _⟩ => refine Fin.ext ?_; show ((rowR o h).emb j 1).val % 128 = (j 1).val; omega
  | ⟨2, _⟩ => exact h2

/-! ### Reads and writes at the slots and the row slices -/

omit [FloatOps F] in
theorem comm_read_emb (f : (cc0_scratch4 : Ref sig .tc).ty.Contents (Elt F)) (r d : ℕ) (h) (j : S1x1x8x128.Idx) :
    (commM.access (slotR r d h)).read (Elt F) f j = f ((slotR r d h).emb j) := by
  rw [View.read_apply]; rfl

/-- A load of slot `(r, d)` reads the sums of slice `r` of the device `d` places before. -/
theorem comm_load (c : Dev nD) (r d : ℕ) (h) : (commM.access (slotR r d h)).read (Elt F) (commBuf m c) = stat m (back c d) r := by
  funext j; exact (comm_read_emb _ r d h j).trans (commBuf_emb m c r d h j)

/-- Storing a device's sums of slice `r` in slot `(r, 0)` leaves there what the buffer is to hold. -/
theorem comm_store (c : Dev nD) (r : ℕ) (h) (f : (cc0_scratch4 : Ref sig .tc).ty.Contents (Elt F)) :
    ∀ i ∈ slotSet r 0, (commM.access (slotR r 0 h)).write (Elt F) f (stat m c r) Finset.univ i = commBuf m c i := by
  intro i hi
  rw [← slotR_set r 0 h] at hi
  obtain ⟨j, rfl⟩ : ∃ j, (slotR r 0 h).emb j = i := LoadRect.exists_idx_of_mem _ hi
  refine Eq.trans ?_ ((commBuf_emb m c r 0 h j).trans (by rw [back_zero])).symm
  exact View.write_emb_of_mem _ _ (Finset.mem_univ j)

/-- What a transfer from `(r, 0)` of one device lands in `(r, d)` of the device `d` places on is what is to be there. -/
theorem comm_land (c : Dev nD) (r d : ℕ) (hd : d < 4) (h0 h) (f : (cc0_scratch4 : Ref sig .tc).ty.Contents (Elt F)) :
    ∀ i ∈ slotSet r d, (slotM r d h).view.write (Elt F) f ((slotM r 0 h0).view.read (Elt F) (commBuf m c)) Finset.univ i = commBuf m (peer c d) i := by
  intro i hi
  rw [← slotM_set r d h] at hi
  obtain ⟨x, -, rfl⟩ := Finset.mem_map.mp hi
  rw [View.write_emb_of_mem _ _ (Finset.mem_univ x), View.read_apply]
  show commBuf m c ((slotR r 0 h0).emb (Shape.reshapeEquiv _ x)) = commBuf m (peer c d) ((slotR r d h).emb (Shape.reshapeEquiv _ x))
  rw [commBuf_emb, commBuf_emb, back_peer c hd, back_zero]

/-- The activations' scratch buffer, -/
abbrev xvM : Memref sig .tc .vmem S4x512x256 .f32 := Memref.whole cc0_scratch0
/-- the result's staging buffer, -/
abbrev outM : Memref sig .tc .vmem S4x512x256 .bf16 := Memref.whole cc0_stg0_0
/-- and the activations' argument. -/
abbrev xM : Memref sig .tc .hbm S4x512x256 .f32 := Memref.whole main_arg0

/-- A load of row slice `r` of the copied activations reads slice `r` of the activations. -/
theorem xv_load (c : Dev nD) {r o : ℕ} (ho : o = 128 * r) (hr : r < 4) (h) : (xvM.access (rowR o h)).read (Elt F) (xin m c) = xrow m c r := by
  funext j; rw [View.read_apply]; exact xin_emb m c ho h hr j

/-- Copying row slice `r` leaves the activations' own elements there. -/
theorem xv_land (c : Dev nD) {r o : ℕ} (ho : o = 128 * r) (h h') (f : (cc0_scratch0 : Ref sig .tc).ty.Contents (Elt F)) :
    ∀ i ∈ rowSet r, (xvM.slice (rowR o h) (fun _ => rfl)).view.write (Elt F) f ((xM.slice (rowR o h') (fun _ => rfl)).view.read (Elt F) (xin m c)) Finset.univ i = xin m c i := by
  intro i hi
  rw [← rowR_set r ho h] at hi
  obtain ⟨j, rfl⟩ : ∃ j, (rowR o h).emb j = i := LoadRect.exists_idx_of_mem _ hi
  exact View.write_emb_of_mem _ _ (Finset.mem_univ j)

/-- Storing row slice `r` of the result leaves there what the result is to hold. -/
theorem out_store (c : Dev nD) {r o : ℕ} (ho : o = 128 * r) (h) (f : (cc0_stg0_0 : Ref sig .tc).ty.Contents (Elt F)) :
    ∀ i ∈ rowSet r, (outM.access (rowR o h)).write (Elt F) f (outRow m c r) Finset.univ i = outAt m c i := by
  intro i hi
  rw [← rowR_set r ho h] at hi
  obtain ⟨j, rfl⟩ : ∃ j, (rowR o h).emb j = i := LoadRect.exists_idx_of_mem _ hi
  refine Eq.trans ?_ (outAt_emb m c ho h j).symm
  exact View.write_emb_of_mem _ _ (Finset.mem_univ j)

end Cert.AdaLN

end
-- ==== Proof.Protocol.lean ====
/-
# The exchange's protocol

Round 0 of three families of semaphores, per device `c`:

| semaphore | duties | paid by | amount | what a wait receives |
|---|---|---|---|---|
| barrier of `c` | `k = 0, 1, 2` | `peer c (k + 1)`, by a signal | 1 each | the slots `(r, k + 1)` of that peer, all `r`, at any contents |
| send `(r, k)` of `c` | one | `c`, when its transfer has left | a slot's bytes | a third of slot `(r, 0)` of `c` back |
| receive `(r, k)` of `c` | one | `back c (k + 1)`, by its transfer | a slot's bytes | slot `(r, k + 1)` of `c`, holding that device's sums of slice `r` |

Barrier semaphores stand at level 1, receive semaphores at 2 and all others at 0: a device waits at its barrier while
it owes its transfers, and for its local copies while it owes anything.
-/
module

public import proofs.«01_k».proof.Proof.Slots
public import Idealize.ShloMosaic.Lib.Ring.Trips

@[expose] public section

noncomputable section

namespace Cert.AdaLN

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy, the exchange's, and counters for the local copies -/

/-- The rounds of the exchange, as resources, three names of duties to a cell. -/
abbrev UB : Type := URounds (GSem nD τ sig) (Fin 3)
/-- The pipeline's rounds, the exchange's, and counters. -/
abbrev UU : Type := UR sig nD τ × (UB × Counters)

local notation "𝕄" => MT nD τ sig Unit (Elt F) ℕ UU ℕ

/-- Where the pipeline's rounds stand among the resources. -/
abbrev EP : Emb (UR sig nD τ) (MT nD τ sig Unit (Elt F) ℕ UU ℕ) := embL
/-- Where the exchange's rounds stand. -/
def ER : Emb UB (MT nD τ sig Unit (Elt F) ℕ UU ℕ) := (Emb.inl : Emb UB (UB × Counters)).trans embR
/-- Where the counters stand. -/
abbrev EC : UEmb Counters (MT nD τ sig Unit (Elt F) ℕ UU ℕ) := countersEmb (U := UU)

/-- The exchange's rounds stand among the resources that invariants may hold. -/
instance ER_landsIn : (ER (F := F)).LandsIn (upEmb : UEmb _ (MT nD τ sig Unit (Elt F) ℕ UU ℕ)) := by unfold ER; infer_instance

variable (m : (ℓ : Loc nD τ sig) → Buf (Elt F) ℓ)

/-! ## Cells -/

/-- Device `c`'s barrier. -/
abbrev barCell (c : Dev nD) : GSem nD τ sig := ((c : Thread nD τ), .reg barS)
/-- Device `c`'s send semaphore of copy `k` of round `r`. -/
abbrev sendCell (c : Dev nD) (r k : ℕ) : GSem nD τ sig := ((c : Thread nD τ), .dma (dsem (8 + (3 * r + k))))
/-- Device `c`'s receive semaphore of copy `k` of round `r`. -/
abbrev recvCell (c : Dev nD) (r k : ℕ) : GSem nD τ sig := ((c : Thread nD τ), .dma (dsem (20 + (3 * r + k))))

/-- The bytes of a slot, as a transfer credits them. -/
abbrev N : ℕ := (slotM 0 0 inb_S4x4x8x128_S1x1x8x128_0_0_0_0).view.dmaCredit
/-- A slot has some bytes. -/
theorem N_pos : 0 < N := View.dmaCredit_pos _ (by decide)

/-! ## Slots held -/

/-- Slot `(r, d)` of device `c`'s exchange buffer, held at share `q` at contents `f`. -/
def slotPts (c : Dev nD) (r d : ℕ) (q : PosShare TreeShare) (f : (cc0_scratch4 : Ref sig .tc).ty.Contents (Elt F)) : sProp 𝕄 :=
  ((c : Thread nD τ).loc cc0_scratch4) ↦[slotSet r d]{q} f

set_option backward.proofsInPublic true in
/-- The share of slot `(r, 0)` that transfer `k` reads through. -/
def third (k : ℕ) : PosShare TreeShare := Ring.shares3 fullShare ⟨k % 3, Nat.mod_lt _ (by decide)⟩

/-- What the peer `c + d` hands device `c` at the barrier: its slots `(r, d)`, at any contents. -/
def barPay (c : Dev nD) (d : ℕ) : sProp 𝕄 :=
  iprop((∃ f, slotPts (peer c d) 0 d fullShare f) ∗ (∃ f, slotPts (peer c d) 1 d fullShare f)
    ∗ (∃ f, slotPts (peer c d) 2 d fullShare f) ∗ (∃ f, slotPts (peer c d) 3 d fullShare f))
/-- What copy `k` of round `r` gives back to its sender: the share of its own slot that it read. -/
def sendPay (c : Dev nD) (r k : ℕ) : sProp 𝕄 := slotPts c r 0 (third k) (commBuf m c)
/-- What a landing hands over: slot `(r, d)`, with the sender's statistics. -/
def recvPay (c : Dev nD) (r d : ℕ) : sProp 𝕄 := slotPts c r d fullShare (commBuf m c)

omit [FloatOps F] in
instance slotPts_storable (c : Dev nD) (r d : ℕ) (q) (f) : BI.Storable (upEmb : UEmb _ 𝕄) (slotPts (F := F) c r d q f) := by
  unfold slotPts; infer_instance

/-! ## The schedule -/

/-- The exchange's duties, amounts and payloads (the table above). -/
def exRd : Rounds.Schedule (GSem nD τ sig) (Fin 3) 𝕄 where
  duties g r := if r = 0 ∧ g.1.2 = .tc then (match g.2 with
    | .reg b => if b = barS then Finset.univ else ∅
    | .dma n => if 8 ≤ n.val then {0} else ∅) else ∅
  unitless _ := False
  amount g _ _ := match g.2 with
    | .reg _ => 1
    | .dma _ => N
  payload g _ d := match g.2 with
    | .reg _ => barPay g.1.1 (d.val + 1)
    | .dma n => if n.val < 20 then sendPay m g.1.1 ((n.val - 8) / 3) ((n.val - 8) % 3)
      else recvPay m g.1.1 ((n.val - 20) / 3) ((n.val - 20) % 3 + 1)
  amount_pos g _ _ _ := by
    rcases g with ⟨t, s | s⟩
    · exact Nat.one_pos
    · exact N_pos

/-- The payloads may be kept in an invariant. -/
instance exRd_payload_storable (g : GSem nD τ sig) (r : ℕ) (d : Fin 3) :
    BI.Storable (upEmb : UEmb _ 𝕄) ((exRd (F := F) m).payload g r d) := by
  rcases g with ⟨t, s | s⟩
  · show BI.Storable upEmb (barPay t.1 (d.val + 1)); unfold barPay; infer_instance
  · show BI.Storable upEmb (if s.val < 20 then sendPay m t.1 ((s.val - 8) / 3) ((s.val - 8) % 3)
      else recvPay m t.1 ((s.val - 20) / 3) ((s.val - 20) % 3 + 1))
    unfold sendPay recvPay
    split <;> infer_instance

section Sched
variable (c : Dev nD)

/-- Semaphore `n` of the thirty-two has number `n`. -/
theorem dsem_val {n : ℕ} (h : n < 32) : (dsem n).val = n := Nat.mod_eq_of_lt h

/-- A barrier's one round has three duties. -/
theorem duties_bar : (exRd (F := F) m).duties (barCell c) 0 = Finset.univ := by
  dsimp only [exRd]; rw [if_pos ⟨rfl, rfl⟩]; exact if_pos rfl
/-- A send or receive semaphore's one round has one duty. -/
theorem duties_dma {n : ℕ} (h8 : 8 ≤ n) (hn : n < 32) : (exRd (F := F) m).duties ((c : Thread nD τ), .dma (dsem n)) 0 = {0} := by
  dsimp only [exRd]; rw [if_pos ⟨rfl, rfl⟩]; exact if_pos (by rw [dsem_val hn]; exact h8)
/-- No cell has a second round. -/
theorem duties_later (g : GSem nD τ sig) : ∀ r, 1 ≤ r → (exRd (F := F) m).duties g r = ∅ :=
  fun r hr => by dsimp only [exRd]; rw [if_neg fun h => by omega]

/-- A barrier counts three. -/
theorem expect_bar : (exRd (F := F) m).expect (barCell c) 0 = 3 := by
  unfold Schedule.expect Schedule.amountOf
  rw [duties_bar]; rfl
/-- A send or receive semaphore counts a slot's bytes. -/
theorem expect_dma {n : ℕ} (h8 : 8 ≤ n) (hn : n < 32) : (exRd (F := F) m).expect ((c : Thread nD τ), .dma (dsem n)) 0 = N := by
  unfold Schedule.expect Schedule.amountOf; rw [duties_dma m c h8 hn, Finset.sum_singleton]; rfl

/-- A send semaphore hands back the share that was read. -/
theorem payload_send {r k : ℕ} (hr : r < 4) (hk : k < 3) (d : Fin 3) : (exRd (F := F) m).payload (sendCell c r k) 0 d = sendPay m c r k := by
  dsimp only [exRd]
  rw [dsem_val (by omega), if_pos (by omega)]
  congr 1 <;> omega
/-- A receive semaphore hands over the slot that was filled. -/
theorem payload_recv {r k : ℕ} (hr : r < 4) (hk : k < 3) (d : Fin 3) : (exRd (F := F) m).payload (recvCell c r k) 0 d = recvPay m c r (k + 1) := by
  dsimp only [exRd]
  rw [dsem_val (by omega), if_neg (by omega)]
  congr 1 <;> omega

/-- The whole of the barrier's round: the slots of the three peers. -/
theorem rest_bar : bigSep ((exRd (F := F) m).duties (barCell c) 0 \ ∅) (fun d => (exRd (F := F) m).payload (barCell c) 0 d)
    = iprop(barPay c 1 ∗ barPay c 2 ∗ barPay c 3) := by
  rw [Finset.sdiff_empty, duties_bar, bigSep_univ_eq_bigSepL [0, 1, 2] (by decide) (by decide), bigSepL_cons_cons, bigSepL_cons_cons, bigSepL_singleton]
  rfl
/-- The whole of a send or receive semaphore's round: its one payload. -/
theorem rest_dma {n : ℕ} (h8 : 8 ≤ n) (hn : n < 32) : bigSep ((exRd (F := F) m).duties ((c : Thread nD τ), .dma (dsem n)) 0 \ ∅)
      (fun d => (exRd (F := F) m).payload ((c : Thread nD τ), .dma (dsem n)) 0 d)
    = (exRd (F := F) m).payload ((c : Thread nD τ), .dma (dsem n)) 0 0 := by
  rw [Finset.sdiff_empty, duties_dma m c h8 hn, bigSep_singleton]

end Sched

/-! ## What a device owes -/

/-- The transfers device `c` has still to start, `n` of them left: entry `(r, k)` goes to `peer c (k + 1)`. -/
def todo (c : Dev nD) : ℕ → List (GSem nD τ sig × ℕ)
  | 0 => []
  | n + 1 => (recvCell (peer c ((11 - n) % 3 + 1)) ((11 - n) / 3) ((11 - n) % 3), N) :: todo c n

/-- All that device `c` owes at launch, in the order it pays: its three signals, its twelve transfers. -/
def owed₀ (c : Dev nD) : List (GSem nD τ sig × ℕ) := (barCell (peer c 1), 1) :: (barCell (peer c 2), 1) :: (barCell (peer c 3), 1) :: todo c 12

/-- A list of debts as one tally. -/
def tot : List (GSem nD τ sig × ℕ) → CellTallies nD τ sig Unit
  | [] => 0
  | p :: l => tot l + tallyAt p.1 () p.2

/-- A cell at which a list's tally is positive is in the list. -/
theorem tot_pos {l : List (GSem nD τ sig × ℕ)} {g : GSem nD τ sig} {u : Unit} (h : 0 < tot l g u) : ∃ p ∈ l, g = p.1 := by
  induction l with
  | nil => exact absurd h (Nat.lt_irrefl 0)
  | cons p l ih =>
    unfold tot at h
    rw [Pi.add_apply, Finsupp.add_apply, tallyAt_apply] at h
    by_cases hp : g = p.1 ∧ u = ()
    · exact ⟨p, List.mem_cons_self, hp.1⟩
    · rw [if_neg hp, Nat.add_zero] at h
      obtain ⟨q, hq, e⟩ := ih h
      exact ⟨q, List.mem_cons_of_mem _ hq, e⟩

/-- The labels of a cell: one on a TensorCore, none elsewhere. -/
def L (g : GSem nD τ sig) : Finset Unit := if g.1.2 = .tc then {()} else ∅
/-- Barrier semaphores at 1, receive semaphores at 2, everything else at 0. -/
def lv (g : GSem nD τ sig) (_ : Unit) : ℕ := match g.2 with
  | .reg b => if b = barS then 1 else 0
  | .dma n => if 20 ≤ n.val then 2 else 0

/-- Elsewhere there is none. -/
theorem L_of_ne (g : GSem nD τ sig) (h : g.1.2 ≠ .tc) : L g = ∅ := if_neg h
/-- On a TensorCore there is one. -/
theorem L_tc (c : Dev nD) (sm : SemLoc sig) : L ((c : Thread nD τ), sm) = {()} := if_pos rfl

/-- Every debt of the list stands on a TensorCore's semaphore above level `b`. -/
def Above (b : ℕ) (l : List (GSem nD τ sig × ℕ)) : Prop := ∀ p ∈ l, p.1.1.2 = .tc ∧ b < lv p.1 ()

/-- The copies still to start stand above the barrier. -/
theorem above_todo (c : Dev nD) : ∀ n, n ≤ 12 → Above 1 (todo c n)
  | 0, _ => fun _ hp => absurd hp List.not_mem_nil
  | n + 1, hn => fun p hp => by
    rcases List.mem_cons.mp hp with rfl | hp
    · refine ⟨rfl, ?_⟩
      dsimp only [lv]
      rw [dsem_val (by omega), if_pos (by omega)]; decide
    · exact above_todo c n (by omega) p hp

/-- What stands above a level stands above a lower one. -/
theorem Above.mono {b b' : ℕ} (h : b' ≤ b) {l} (H : Above b l) : Above b' l := fun p hp => ⟨(H p hp).1, lt_of_le_of_lt h (H p hp).2⟩

/-- All that a device owes at launch stands above the lowest level. -/
theorem above_owed₀ (c : Dev nD) : Above 0 (owed₀ c) := by
  intro p hp
  unfold owed₀ at hp
  simp only [List.mem_cons] at hp
  rcases hp with rfl | rfl | rfl | hp
  · exact ⟨rfl, by dsimp only [lv]; rw [if_pos rfl]; decide⟩
  · exact ⟨rfl, by dsimp only [lv]; rw [if_pos rfl]; decide⟩
  · exact ⟨rfl, by dsimp only [lv]; rw [if_pos rfl]; decide⟩
  · exact (above_todo c 12 le_rfl).mono (by decide) p hp

/-- A wait on a semaphore at level at most `b`, by a device whose debts all stand above `b`, is allowed. -/
theorem mayWait_of_above (c : Dev nD) (sm : SemLoc sig) {b : ℕ} (hb : lv ((c : Thread nD τ), sm) () ≤ b) {l} (H : Above b l) :
    (levAts L lv : sProp 𝕄) ⊢ MayWait (c : Thread nD τ) sm () (tot l) :=
  MayOwe.of_cut (L := L) (lev := lv) b (fun p hp => by rw [Finset.mem_singleton.mp hp, L_tc]; exact Finset.mem_singleton_self _)
    (fun g u hg => by
      obtain ⟨p, hp, rfl⟩ := tot_pos hg
      unfold L; rw [if_pos (H p hp).1]; exact Finset.mem_singleton_self _)
    (fun p hp => by rw [Finset.mem_singleton.mp hp]; exact hb)
    (fun g u hg => by
      obtain ⟨p, hp, rfl⟩ := tot_pos hg
      exact (H p hp).2)

/-- What device `c` owes, whatever waits it has made. -/
def owesE (c : Dev nD) (l : List (GSem nD τ sig × ℕ)) : sProp 𝕄 := iprop(∃ W, owes (c : Thread nD τ) (tot l) W)

/-! ## What every step of the body may use: the cells' invariants, that round 0 is reached, the levels -/

set_option backward.proofsInPublic true in
/-- The exchange's semaphores of one device: the barrier's, then the twelve send and the twelve receive semaphores. -/
def csem (i : Fin 25) : SemLoc sig := if i.val = 0 then .reg barS else .dma (dsem (7 + i.val))
/-- A device's cell of the exchange. -/
abbrev kcell (ck : Dev nD × Fin 25) : GSem nD τ sig := ((ck.1 : Thread nD τ), csem ck.2)

/-- What is known of a cell: its invariant, and that its round is reached. -/
def cellRec (g : GSem nD τ sig) : sProp 𝕄 := iprop((∃ κ, cellInv ER (exRd m) κ g) ∗ reached ER g 0)
/-- It may be used any number of times. -/
instance cellRec_persistent (g : GSem nD τ sig) : BI.Persistent (cellRec m g) := by unfold cellRec; infer_instance

/-- What is known of all cells, and their levels. -/
def records : sProp 𝕄 := iprop((bigSep Finset.univ fun ck : Dev nD × Fin 25 => cellRec m (kcell ck)) ∗ levAts L lv)
/-- It may be used any number of times. -/
instance records_persistent : BI.Persistent (records (F := F) m) := by unfold records; infer_instance

/-- Of it, one cell's record, -/
theorem records_kcell (ck : Dev nD × Fin 25) : records m ⊢ cellRec m (kcell ck) := by
  unfold records
  iintro ⟨H, -⟩
  ihave H' := (show (bigSep Finset.univ fun ck : Dev nD × Fin 25 => cellRec m (kcell ck)) ⊢ cellRec m (kcell ck) from bigSep_elim (Finset.mem_univ ck)) $$ H
  iexact H'

/-- the levels, -/
theorem records_lev : records (F := F) m ⊢ levAts L lv := by
  unfold records
  iintro ⟨-, H⟩
  iexact H

/-- the record of a barrier, -/
theorem records_bar (c : Dev nD) : records m ⊢ cellRec m (barCell c) := records_kcell m (c, 0)
/-- and that of a send or receive semaphore. -/
theorem records_dma (c : Dev nD) {n : ℕ} (h8 : 8 ≤ n) (hn : n < 32) : records m ⊢ cellRec m ((c : Thread nD τ), .dma (dsem n)) := by
  have h := records_kcell m (c, ⟨n - 7, by omega⟩)
  unfold kcell csem at h
  rw [if_neg (by show n - 7 ≠ 0; omega)] at h
  have e : 7 + (n - 7) = n := by omega
  rwa [e] at h

end Cert.AdaLN

end
-- ==== Proof.Steps.lean ====
/-
# One step of the body at a time

Each lemma is one operation of the kernel's body in the exchange's terms: what it needs, what it leaves.
-/
module

public import proofs.«01_k».proof.Proof.Protocol

@[expose] public section

noncomputable section

namespace Cert.AdaLN

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- No loop has a variant: there is none. -/
abbrev 𝒱₀ : Variants := Variants.none

/-- Running `p` on device `c` to `Q`. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (m : (ℓ : Loc nD τ sig) → Buf (Elt F) ℓ)

/-! ## What a device holds for one transfer -/

/-- For starting transfer `(r, k)`: its position at its send semaphore and the two duties it pays. -/
def sendRes (c : Dev nD) (r k : ℕ) : sProp 𝕄 :=
  iprop(atPos ER (sendCell c r k) 0 ∅ 0 ∗ dutyTok ER (sendCell c r k) 0 0 ∗ dutyTok ER (recvCell (peer c (k + 1)) r k) 0 0)
/-- Transfer `(r, k)` started: its position and the credit of its send semaphore. -/
def sent (c : Dev nD) (r k : ℕ) : sProp 𝕄 := iprop(atPos ER (sendCell c r k) 0 ∅ 0 ∗ cred (tallyAt (sendCell c r k) () N))
/-- For receiving `(r, k)`: its position and the credit of its receive semaphore. -/
def recvRes (c : Dev nD) (r k : ℕ) : sProp 𝕄 := iprop(atPos ER (recvCell c r k) 0 ∅ 0 ∗ cred (tallyAt (recvCell c r k) () N))

section Steps

variable {c : Dev nD} {α : Type} {Q : α → sProp (MT nD τ sig Unit (Elt F) ℕ UU ℕ)}
variable {K : PUnit → Prog (TpuEff nD τ sig (Elt F) Λ₀ .tc) α}

/-! ## Transfers -/

omit [FloatOps F] in
theorem credit_slot (r d : ℕ) (h) : (slotM r d h).view.dmaCredit = N := rfl

/-- Starting transfer `(r, k)`: a third of the device's own slot and the peer's slot go in. -/
theorem step_send (r k n : ℕ) (hr : r < 4) (hk : k < 3) (hn : n + (3 * r + k) = 11) {p : Dev nD} (hp : p = peer c (k + 1)) {sS sR : DmaSem sig}
    (hS : sS = dsem (8 + (3 * r + k))) (hR : sR = dsem (20 + (3 * r + k))) {h₀ h₁} {hsc} {hsrc hdst} {hsem} {f} :
    records m ⊢ iprop(sendRes c r k -∗ slotPts c r 0 (third k) (commBuf m c) -∗ slotPts (peer c (k + 1)) r (k + 1) fullShare f
      -∗ owesE c (todo c (n + 1)) -∗ (sent c r k -∗ owesE c (todo c n) -∗ run c (K ⟨⟩) Q)
      -∗ run c (.op (.enqueueDma (slotM r 0 h₀) (.remote (Dev.tc p) (slotM r (k + 1) h₁) (.dma sS) hsc) (.dma sR) hsrc hdst hsem) K) Q) := by
  subst hp hS hR
  have hrec₁ := records_dma m c (n := 8 + (3 * r + k)) (by omega) (by omega)
  have hrec₂ := records_dma m (peer c (k + 1)) (n := 20 + (3 * r + k)) (by omega) (by omega)
  unfold sendRes sent slotPts owesE cellRec at *
  iintro #Hrec ⟨Hat, HtS, HtR⟩ Hs Hd ⟨%W, HO⟩ Hk
  ihave ⟨⟨%κ₁, #HI₁⟩, #Hr₁⟩ := hrec₁ $$ Hrec
  ihave ⟨⟨%κ₂, #HI₂⟩, #Hr₂⟩ := hrec₂ $$ Hrec
  iapply (Rounds.wp_send_pointsTo 𝒱₀ ER (exRd m) (c : Thread nD τ) none (c' := (peer c (k + 1) : Thread nD τ)) (κ₁ := κ₁) (κ₂ := κ₂) (sS := .dma (dsem (8 + (3 * r + k)))) (sem := .dma (dsem (20 + (3 * r + k)))) (O₀ := tot (todo c (n + 1))) (src := slotM r 0 h₀) (dst := slotM r (k + 1) h₁)
    (r₁ := 0) (r₂ := 0) (d₁ := 0) (d₂ := 0) (fd := f) (fs := commBuf m c) (q := third k)
    (by rw [duties_dma m c (by omega) (by omega)]; exact Finset.mem_singleton_self _)
    (by rw [duties_dma m (peer c (k + 1)) (by omega) (by omega)]; exact Finset.mem_singleton_self _)
    () () N (credit_slot r (k + 1) h₁) rfl rfl (tot (todo c n))
    (by
      have e : 11 - n = 3 * r + k := by omega
      show tot (todo c n) + tallyAt (recvCell (peer c ((11 - n) % 3 + 1)) ((11 - n) / 3) ((11 - n) % 3)) () N = _
      rw [e]
      have e₁ : (3 * r + k) % 3 = k := by omega
      have e₂ : (3 * r + k) / 3 = r := by omega
      rw [e₁, e₂]) (W := W)
    (by rw [payload_send m c hr hk, slotM_set r 0 h₀]; exact BI.Entails.refl _)
    (by
      rw [payload_recv m _ hr hk, slotM_set r (k + 1) h₁]
      exact Entails.of_eq (pointsTo_congr (comm_land m c r (k + 1) (by omega) h₀ h₁ f)))) $$ [Hs Hd HO HtS HtR]
  · isplitr; · iexact HI₁
    isplitr; · iexact HI₂
    isplitl [Hs]; · rw [slotM_set r 0 h₀]; iexact Hs
    isplitl [Hd]; · rw [slotM_set r (k + 1) h₁]; iexact Hd
    isplitl [HO]; · iexact HO
    isplitl [HtS]; · iexact HtS
    isplitr; · iexact Hr₁
    isplitl [HtR]; · iexact HtR
    iexact Hr₂
  iintro ⟨Hc, HO⟩
  iapply Hk $$ [Hat Hc] [HO]
  · isplitl [Hat] <;> iassumption
  · iexists W; iexact HO

/-- A wait for one of the exchange's transfers by a device that owes nothing: the duty's payload, the semaphore back at zero. -/
theorem step_waitDma (n : ℕ) (h8 : 8 ≤ n) (hn : n < 32) {sm : DmaSem sig} (hsm : sm = dsem n) {r d r' d' h h'} {hsrc hdst} :
    records m ⊢ iprop((atPos ER ((c : Thread nD τ), .dma (dsem n)) 0 ∅ 0 ∗ cred (tallyAt ((c : Thread nD τ), .dma (dsem n)) () N))
      -∗ owesE c []
      -∗ ((exRd m).payload ((c : Thread nD τ), .dma (dsem n)) 0 0 -∗ semVal ((c : Thread nD τ), .dma (dsem n)) 0 -∗ owesE c [] -∗ run c (K ⟨⟩) Q)
      -∗ run c (.op (.waitDma2 sm (slotM r d h) (slotM r' d' h') hsrc hdst) K) Q) := by
  subst hsm
  have hrec := records_dma m c (n := n) h8 hn
  unfold owesE cellRec at *
  iintro #Hrec ⟨Hat, Hc⟩ ⟨%W, HO⟩ Hk
  ihave ⟨⟨%κ, #HI⟩, #Hr⟩ := hrec $$ Hrec
  iapply (Rounds.wp_wait_rest_token 𝒱₀ ER (exRd m) (c : Thread nD τ) none (κ := κ)
      (wpE_waitDma2_eq 𝒱₀ (c : Thread nD τ) none Set.univ) (Set.mem_univ _) () (O := 0) (W := W) (R := 0) (m := 0) (T := ∅)
      (by rw [Nat.zero_add, expect_dma m c h8 hn])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_dma m c h8 hn)) $$ Hpay
  imod (Rounds.cell_close ER (exRd m) (Set.mem_univ κ) (fun h => h) (R := 0 + 1) (duties_later m _)) $$ [Hat] with Hz
  · isplitr; · iexact HI
    iexact Hat
  iapply Hk $$ Hp Hz [HO]
  iexists _; iexact HO

/-- Waiting for transfer `(r, k)` to have left: its third of the device's own slot is back. -/
theorem step_waitSend (r k : ℕ) (hr : r < 4) (hk : k < 3) {sm : DmaSem sig} (hsm : sm = dsem (8 + (3 * r + k))) {r₁ d₁ r₂ d₂ h h'} {hsrc hdst} :
    records m ⊢ iprop(sent c r k -∗ owesE c []
      -∗ (slotPts c r 0 (third k) (commBuf m c) -∗ semVal (sendCell c r k) 0 -∗ owesE c [] -∗ run c (K ⟨⟩) Q)
      -∗ run c (.op (.waitDma2 sm (slotM r₁ d₁ h) (slotM r₂ d₂ h') hsrc hdst) K) Q) := by
  have H := step_waitDma (K := K) (Q := Q) m (c := c) (8 + (3 * r + k)) (by omega) (by omega) hsm (h := h) (h' := h') (hsrc := hsrc) (hdst := hdst)
  rw [payload_send m c hr hk] at H
  exact H

/-- Waiting for the peer's transfer `(r, k)`: its sums of slice `r` are in slot `(r, k + 1)`. -/
theorem step_waitRecv (r k : ℕ) (hr : r < 4) (hk : k < 3) {sm : DmaSem sig} (hsm : sm = dsem (20 + (3 * r + k))) {r₁ d₁ r₂ d₂ h h'} {hsrc hdst} :
    records m ⊢ iprop(recvRes c r k -∗ owesE c []
      -∗ (slotPts c r (k + 1) fullShare (commBuf m c) -∗ semVal (recvCell c r k) 0 -∗ owesE c [] -∗ run c (K ⟨⟩) Q)
      -∗ run c (.op (.waitDma2 sm (slotM r₁ d₁ h) (slotM r₂ d₂ h') hsrc hdst) K) Q) := by
  have H := step_waitDma (K := K) (Q := Q) m (c := c) (20 + (3 * r + k)) (by omega) (by omega) hsm (h := h) (h' := h') (hsrc := hsrc) (hdst := hdst)
  rw [payload_recv m c hr hk] at H
  exact H

/-! ## The barrier -/

/-- The slots device `c` hands the peer whose transfers land in them: `(r, d)` for all `r`. -/
def give (c : Dev nD) (d : ℕ) : sProp 𝕄 :=
  iprop((∃ f, slotPts c 0 d fullShare f) ∗ (∃ f, slotPts c 1 d fullShare f) ∗ (∃ f, slotPts c 2 d fullShare f) ∗ (∃ f, slotPts c 3 d fullShare f))

/-- Signalling `peer c s`: device `c` hands it the slots its transfers land in. -/
theorem step_signal (s d : ℕ) (hs : 0 < s) (hd : 0 < d) (hsd : s + d = 4) {p : Dev nD} (hp : p = peer c s) {l} (j : Fin 3) (hj : j.val + 1 = d) :
    records m ⊢ iprop(dutyTok ER (barCell (peer c s)) 0 j -∗ give c d -∗ owesE c ((barCell (peer c s), 1) :: l)
      -∗ (owesE c l -∗ run c (K ⟨⟩) Q) -∗ run c (.op (.semSignal (Dev.tc p) barS 1) K) Q) := by
  subst hp
  have hrec := records_bar m (peer c s)
  unfold owesE cellRec at *
  iintro #Hrec Ht Hg ⟨%W, HO⟩ Hk
  ihave ⟨⟨%κ, #HI⟩, #Hr⟩ := hrec $$ Hrec
  iapply (Rounds.wp_signal 𝒱₀ ER (exRd m) (c : Thread nD τ) none (dst := ((peer c s) : Thread nD τ)) (κ := κ)
      (d := j) (by rw [duties_bar]; exact Finset.mem_univ _) rfl () (tot l) rfl) $$ [HO Ht Hg]
  · isplitr; · iexact HI
    isplitl [HO]; · iexact HO
    isplitl [Ht]; · iexact Ht
    isplitl [Hg]
    · iapply (show give c d ⊢ (exRd m).payload (barCell (peer c s)) 0 j from by
        show _ ⊢ barPay (peer c s) (j.val + 1)
        unfold barPay give
        rw [hj, peer_peer c hsd])
      iexact Hg
    iexact Hr
  iintro HO
  iapply Hk
  iexists W; iexact HO

/-- The wait at the barrier: the slots of the three peers that this device's transfers land in. -/
theorem step_barrier :
    records m ⊢ iprop(atPos ER (barCell c) 0 ∅ 0 -∗ cred (tallyAt (barCell c) () 3) -∗ owesE c (todo c 12)
      -∗ (iprop(barPay c 1 ∗ barPay c 2 ∗ barPay c 3) -∗ semVal (barCell c) 0 -∗ owesE c (todo c 12) -∗ run c (K ⟨⟩) Q)
      -∗ run c (.op (.semWait barS 3) K) Q) := by
  have hrec := records_bar m c
  have hlev := records_lev m
  unfold owesE cellRec at *
  iintro #Hrec Hat Hc ⟨%W, HO⟩ Hk
  ihave ⟨⟨%κ, #HI⟩, #Hr⟩ := hrec $$ Hrec
  ihave #Hlev := hlev $$ Hrec
  iapply (Rounds.wp_wait_rest_token 𝒱₀ ER (exRd m) (c : Thread nD τ) none (κ := κ)
      (wpE_semWait_eq 𝒱₀ (c : Thread nD τ) none Set.univ) (Set.mem_univ _) () (O := tot (todo c 12)) (W := W) (R := 0) (m := 0) (T := ∅)
      (by rw [expect_bar])) $$ [Hc HO Hat]
  · isplitr; · iexact HI
    isplitl [Hc]; · iexact Hc
    isplitl [HO]; · iexact HO
    isplitr
    · iapply (mayWait_of_above c (.reg barS) (b := 1) (by dsimp only [lv]; rw [if_pos rfl]) (above_todo c 12 le_rfl))
      iexact Hlev
    iexact Hat
  iintro ⟨HO, Hat, -, Hpay⟩
  ihave Hp := (Entails.of_eq (rest_bar m c)) $$ Hpay
  imod (Rounds.cell_close ER (exRd m) (Set.mem_univ κ) (fun h => h) (R := 0 + 1) (duties_later m _)) $$ [Hat] with Hz
  · isplitr; · iexact HI
    iexact Hat
  iapply Hk $$ Hp Hz [HO]
  iexists _; iexact HO

/-! ## Local copies -/

/-- A local copy under way on semaphore `n`: `d` is delivered when it is waited for. -/
def copying (c : Dev nD) (n : ℕ) (N' : ℕ) (d : sProp 𝕄) : sProp 𝕄 := Transfers.Flight EC (c : Thread nD τ) (.dma (dsem n)) () N' d

/-- Starting a local copy: the delivery is stated at the contents `g` the copy leaves. -/
theorem step_copy (n : ℕ) {sm : DmaSem sig} (hsm : sm = dsem n) {sp sp' : Space} {s : Shape} {e : EltTy}
    {src : Memref sig .tc sp s e} {dst : Memref sig .tc sp' s e} {N' : ℕ} (hN : dst.view.dmaCredit = N') (hN0 : 0 < N')
    {fs : Buf (Elt F) (src.view.loc (c : Thread nD τ))} {Ss : Finset (Idx (src.view.loc (c : Thread nD τ)))} (hSs : src.view.set = Ss)
    {fd g : Buf (Elt F) (dst.view.loc (c : Thread nD τ))} {Sd : Finset (Idx (dst.view.loc (c : Thread nD τ)))} (hSd : dst.view.set ⊆ Sd)
    (hg : ∀ i ∈ Sd, dst.view.write (Elt F) fd (src.view.read (Elt F) fs) Finset.univ i = g i) {hsrc hdst hsem} :
    (src.view.loc (c : Thread nD τ) ↦[Ss]{fullShare} fs) ⊢ iprop((dst.view.loc (c : Thread nD τ) ↦[Sd]{fullShare} fd)
      -∗ semVal ((c : Thread nD τ), .dma (dsem n)) 0
      -∗ (copying c n N' iprop((dst.view.loc (c : Thread nD τ) ↦[Sd]{fullShare} g) ∗ (src.view.loc (c : Thread nD τ) ↦[Ss]{fullShare} fs)) -∗ run c (K ⟨⟩) Q)
      -∗ run c (.op (.enqueueDma src (.here dst) (.dma sm) hsrc hdst hsem) K) Q) := by
  subst hsm hSs
  unfold copying
  iintro Hs Hd Hv Hk
  iapply (Transfers.wp_dmaLocal EC 𝒱₀ (c : Thread nD τ) none (sm := .dma (dsem n)) (dst := dst) (Sd := Sd) (fd := fd) (fs := fs) (q := fullShare) () N' hN hN0 hSd) $$ [Hs Hd Hv]
  · isplitl [Hs]; · iexact Hs
    isplitl [Hd] <;> iassumption
  iintro Hf
  iapply Hk
  iapply (Transfers.Flight_mono EC (c : Thread nD τ) (sep_mono_left (Entails.of_eq (pointsTo_congr hg))))
  iexact Hf

/-- Waiting for a local copy. -/
theorem step_waitCopy (n : ℕ) (hn : n < 8) {sm : DmaSem sig} (hsm : sm = dsem n) {sp sp' : Space} {s s' : Shape} {e e' : EltTy}
    {src : Memref sig .tc sp' s' e'} {dst : Memref sig .tc sp s e} {N' : ℕ} (hN : dst.view.dmaCredit = N') {l} (hl : Above 0 l) {d : sProp 𝕄}
    {hsrc hdst} :
    records m ⊢ iprop(copying c n N' d -∗ owesE c l
      -∗ (d -∗ semVal ((c : Thread nD τ), .dma (dsem n)) 0 -∗ owesE c l -∗ run c (K ⟨⟩) Q)
      -∗ run c (.op (.waitDma2 sm src dst hsrc hdst) K) Q) := by
  subst hsm
  have hlev := records_lev m
  unfold copying owesE
  iintro #Hrec Hf ⟨%W, HO⟩ Hk
  ihave #Hlev := hlev $$ Hrec
  iapply (Transfers.wp_waitLocalO EC 𝒱₀ (c : Thread nD τ) none (O := tot l) (W := W) () hN) $$ [Hf HO]
  · isplitl [Hf]; · iexact Hf
    isplitl [HO]; · iexact HO
    iapply (mayWait_of_above c (.dma (dsem n)) (b := 0) (by dsimp only [lv]; rw [dsem_val (by omega), if_neg (by omega)]) hl)
    iexact Hlev
  iintro ⟨Hd, Hv, HO⟩
  iapply Hk $$ Hd Hv [HO]
  iexists _; iexact HO

/-- The elements of row slice `r` of a device's activations, of its copy of them, and of its result. -/
def xPts (c : Dev nD) (r : ℕ) : sProp 𝕄 := ((c : Thread nD τ).loc main_arg0) ↦[rowSet r]{fullShare} xin m c
/-- Row slice `r` of the activations' scratch buffer, at contents `f`, -/
def xvPts (c : Dev nD) (r : ℕ) (f : (cc0_scratch0 : Ref sig .tc).ty.Contents (Elt F)) : sProp 𝕄 := ((c : Thread nD τ).loc cc0_scratch0) ↦[rowSet r]{fullShare} f
/-- and that of the result's staging buffer. -/
def outPts (c : Dev nD) (r : ℕ) (f : (cc0_stg0_0 : Ref sig .tc).ty.Contents (Elt F)) : sProp 𝕄 := ((c : Thread nD τ).loc cc0_stg0_0) ↦[rowSet r]{fullShare} f

/-- The bytes of a row slice, as a copy credits them. -/
abbrev NX : ℕ := (xvM.slice (rowR 0 inb_S4x512x256_S4x128x256_0_0_0) (fun _ => rfl)).view.dmaCredit
/-- A row slice has some bytes. -/
theorem NX_pos : 0 < NX := View.dmaCredit_pos _ (by decide)

/-- The copy of row slice `r` under way. -/
def rowCopy (c : Dev nD) (r : ℕ) : sProp 𝕄 := copying c (1 + r) NX iprop(xvPts c r (xin m c) ∗ xPts m c r)

/-- Starting the copy of row slice `r`. -/
theorem step_copyRow (r : ℕ) {o : ℕ} (ho : o = 128 * r) {sm : DmaSem sig} (hsm : sm = dsem (1 + r)) {h h'} {hsrc hdst hsem} {f} :
    xPts m c r ⊢ iprop(xvPts c r f -∗ semVal ((c : Thread nD τ), .dma (dsem (1 + r))) 0 -∗ (rowCopy m c r -∗ run c (K ⟨⟩) Q)
      -∗ run c (.op (.enqueueDma (xM.slice (rowR o h) (fun _ => rfl)) (.here (xvM.slice (rowR o h') (fun _ => rfl))) (.dma sm) hsrc hdst hsem) K) Q) :=
  step_copy (K := K) (Q := Q) (1 + r) hsm (src := xM.slice (rowR o h) (fun _ => rfl)) (dst := xvM.slice (rowR o h') (fun _ => rfl)) (N' := NX) rfl NX_pos
    (Ss := rowSet r) ((View.set_slice_whole _ _).trans (rowR_set r ho h))
    (Sd := rowSet r) (((View.set_slice_whole _ _).trans (rowR_set r ho h')).le) (xv_land m c ho h' h f)

/-- Waiting for the copy of row slice `r`. -/
theorem step_waitRow (r : ℕ) (hr : r < 4) {o : ℕ} {sm : DmaSem sig} (hsm : sm = dsem (1 + r)) {h h'} {l} (hl : Above 0 l) {hsrc hdst} :
    records m ⊢ iprop(rowCopy m c r -∗ owesE c l
      -∗ (xvPts c r (xin m c) -∗ xPts m c r -∗ semVal ((c : Thread nD τ), .dma (dsem (1 + r))) 0 -∗ owesE c l -∗ run c (K ⟨⟩) Q)
      -∗ run c (.op (.waitDma2 sm (xM.slice (rowR o h) (fun _ => rfl)) (xvM.slice (rowR o h') (fun _ => rfl)) hsrc hdst) K) Q) := by
  have H := step_waitCopy (K := K) (Q := Q) m (c := c) (1 + r) (by omega) hsm (src := xM.slice (rowR o h) (fun _ => rfl)) (dst := xvM.slice (rowR o h') (fun _ => rfl)) (N' := NX) rfl hl
    (d := iprop(xvPts c r (xin m c) ∗ xPts m c r)) (hsrc := hsrc) (hdst := hdst)
  unfold rowCopy
  iintro #Hrec Hf HO Hk
  iapply H $$ Hrec Hf HO
  iintro ⟨Hv, Hx⟩ Hz HO
  iapply Hk $$ Hv Hx Hz HO

/-- A buffer held whole at contents `f`. -/
def buf (c : Dev nD) (b : Ref sig .tc) (f : b.ty.Contents (Elt F)) : sProp 𝕄 := ((c : Thread nD τ).loc b) ↦{fullShare} f

/-! The time embedding and the two weights, copied whole -/

/-- The time embedding's argument, the two weights', and their three scratch buffers. -/
abbrev tM : Memref sig .tc .hbm S4x128 .f32 := Memref.whole main_arg1
abbrev wsM : Memref sig .tc .hbm S128x256 .f32 := Memref.whole main_arg2
abbrev wshM : Memref sig .tc .hbm S128x256 .f32 := Memref.whole main_arg3
abbrev tvM : Memref sig .tc .vmem S4x128 .f32 := Memref.whole cc0_scratch1
abbrev wsvM : Memref sig .tc .vmem S128x256 .f32 := Memref.whole cc0_scratch2
abbrev wshvM : Memref sig .tc .vmem S128x256 .f32 := Memref.whole cc0_scratch3

/-- The copy of the time embedding under way, -/
def tCopy (c : Dev nD) : sProp 𝕄 := copying c 5 tvM.view.dmaCredit iprop(buf c cc0_scratch1 (tin m c) ∗ buf c main_arg1 (tin m c))
/-- that of the scale weights, -/
def wsCopy (c : Dev nD) : sProp 𝕄 := copying c 6 wsvM.view.dmaCredit iprop(buf c cc0_scratch2 (wsin m c) ∗ buf c main_arg2 (wsin m c))
/-- and that of the shift weights. -/
def wshCopy (c : Dev nD) : sProp 𝕄 := copying c 7 wshvM.view.dmaCredit iprop(buf c cc0_scratch3 (wshin m c) ∗ buf c main_arg3 (wshin m c))

/-- The copy of the time embedding is started, -/
theorem step_copyT {sm : DmaSem sig} (hsm : sm = dsem 5) {hsrc hdst hsem} {f} :
    buf c main_arg1 (tin m c) ⊢ iprop(buf c cc0_scratch1 f -∗ semVal ((c : Thread nD τ), .dma (dsem 5)) 0 -∗ (tCopy m c -∗ run c (K ⟨⟩) Q)
      -∗ run c (.op (.enqueueDma tM (.here tvM) (.dma sm) hsrc hdst hsem) K) Q) :=
  step_copy (K := K) (Q := Q) 5 hsm (src := tM) (dst := tvM) rfl (View.dmaCredit_pos _ (by decide)) (Ss := Finset.univ) (View.set_whole _)
    (Sd := Finset.univ) (Finset.subset_univ _) (g := tin m c) (fun i _ => View.write_emb_of_mem (v := tvM.view) _ _ (Finset.mem_univ i))
/-- that of the scale weights, -/
theorem step_copyWs {sm : DmaSem sig} (hsm : sm = dsem 6) {hsrc hdst hsem} {f} :
    buf c main_arg2 (wsin m c) ⊢ iprop(buf c cc0_scratch2 f -∗ semVal ((c : Thread nD τ), .dma (dsem 6)) 0 -∗ (wsCopy m c -∗ run c (K ⟨⟩) Q)
      -∗ run c (.op (.enqueueDma wsM (.here wsvM) (.dma sm) hsrc hdst hsem) K) Q) :=
  step_copy (K := K) (Q := Q) 6 hsm (src := wsM) (dst := wsvM) rfl (View.dmaCredit_pos _ (by decide)) (Ss := Finset.univ) (View.set_whole _)
    (Sd := Finset.univ) (Finset.subset_univ _) (g := wsin m c) (fun i _ => View.write_emb_of_mem (v := wsvM.view) _ _ (Finset.mem_univ i))
/-- and that of the shift weights. -/
theorem step_copyWsh {sm : DmaSem sig} (hsm : sm = dsem 7) {hsrc hdst hsem} {f} :
    buf c main_arg3 (wshin m c) ⊢ iprop(buf c cc0_scratch3 f -∗ semVal ((c : Thread nD τ), .dma (dsem 7)) 0 -∗ (wshCopy m c -∗ run c (K ⟨⟩) Q)
      -∗ run c (.op (.enqueueDma wshM (.here wshvM) (.dma sm) hsrc hdst hsem) K) Q) :=
  step_copy (K := K) (Q := Q) 7 hsm (src := wshM) (dst := wshvM) rfl (View.dmaCredit_pos _ (by decide)) (Ss := Finset.univ) (View.set_whole _)
    (Sd := Finset.univ) (Finset.subset_univ _) (g := wshin m c) (fun i _ => View.write_emb_of_mem (v := wshvM.view) _ _ (Finset.mem_univ i))

/-- A load of a buffer whole. -/
theorem step_loadWhole {s : Shape} {e : EltTy} {M : Memref sig .tc .vmem s e} {o : Fin s.rank → ℕ} (ho : ∀ a, o a = 0) {h} {f : Buf (Elt F) (M.view.loc (c : Thread nD τ))} {v : Vec F s e}
    (hv : M.view.read (Elt F) f = v) {hl} {K : Vec F s e → Prog (TpuEff nD τ sig (Elt F) Λ₀ .tc) α} :
    (M.view.loc (c : Thread nD τ) ↦{fullShare} f) ⊢ iprop(((M.view.loc (c : Thread nD τ) ↦{fullShare} f) -∗ run c (K v) Q)
      -∗ run c (.op (.load M (Rect.unit (s := s) o s.size h).toLoadRect hl) K) Q) := by
  have H := wp_load_rect (Q := Q) (Γ := .empty) (defs := defs₀ (F := F)) 𝒱₀ (c : Thread nD τ) none Set.univ (m := M) (r := Rect.unit (s := s) o s.size h) (hl := hl) (k := K)
    (S := Finset.univ) (q := fullShare) (f := f) (Finset.subset_univ _)
  have e : (M.access (Rect.unit (s := s) o s.size h)).read (Elt F) f = v := by
    rw [← hv]
    funext j
    rw [View.read_apply, View.read_apply]
    have he : (M.access (Rect.unit (s := s) o s.size h)).emb j = M.view.emb j := by
      show M.view.emb ((Rect.unit (s := s) o s.size h).emb j) = M.view.emb j
      congr 1
      funext a
      refine Fin.ext ((ValueKit.rect_emb_unit_val (s := s) _ _ h j a).trans ?_)
      rw [ho a, Nat.zero_add]
    rw [he]
  rw [e] at H
  exact H

/-! ## Loads and stores -/

/-- The time embedding is loaded: it is what the copy brought. -/
theorem step_loadT {o : Fin S4x128.rank → ℕ} (ho : ∀ a, o a = 0) {h hl} {K : Vec F S4x128 .f32 → Prog (TpuEff nD τ sig (Elt F) Λ₀ .tc) α} :
    buf c cc0_scratch1 (tin m c) ⊢ iprop((buf c cc0_scratch1 (tin m c) -∗ run c (K (tin m c)) Q)
      -∗ run c (.op (.load tvM (Rect.unit (s := S4x128) o S4x128.size h).toLoadRect hl) K) Q) :=
  step_loadWhole (M := tvM) (f := tin m c) ho rfl
/-- So are the scale weights, -/
theorem step_loadWs {o : Fin S128x256.rank → ℕ} (ho : ∀ a, o a = 0) {h hl} {K : Vec F S128x256 .f32 → Prog (TpuEff nD τ sig (Elt F) Λ₀ .tc) α} :
    buf c cc0_scratch2 (wsin m c) ⊢ iprop((buf c cc0_scratch2 (wsin m c) -∗ run c (K (wsin m c)) Q)
      -∗ run c (.op (.load wsvM (Rect.unit (s := S128x256) o S128x256.size h).toLoadRect hl) K) Q) :=
  step_loadWhole (M := wsvM) (f := wsin m c) ho rfl
/-- and the shift weights. -/
theorem step_loadWsh {o : Fin S128x256.rank → ℕ} (ho : ∀ a, o a = 0) {h hl} {K : Vec F S128x256 .f32 → Prog (TpuEff nD τ sig (Elt F) Λ₀ .tc) α} :
    buf c cc0_scratch3 (wshin m c) ⊢ iprop((buf c cc0_scratch3 (wshin m c) -∗ run c (K (wshin m c)) Q)
      -∗ run c (.op (.load wshvM (Rect.unit (s := S128x256) o S128x256.size h).toLoadRect hl) K) Q) :=
  step_loadWhole (M := wshvM) (f := wshin m c) ho rfl

/-- A load of slot `(r, d)` reads what has arrived there. -/
theorem step_loadSlot (r d : ℕ) {q} {h} {hl} {K : Vec F S1x1x8x128 .f32 → Prog (TpuEff nD τ sig (Elt F) Λ₀ .tc) α} :
    slotPts c r d q (commBuf m c) ⊢ iprop((slotPts c r d q (commBuf m c) -∗ run c (K (stat m (back c d) r)) Q)
      -∗ run c (.op (.load commM (slotR r d h).toLoadRect hl) K) Q) := by
  unfold slotPts
  have H := wp_load_rect (Q := Q) (Γ := .empty) (defs := defs₀ (F := F)) 𝒱₀ (c : Thread nD τ) none Set.univ (m := commM) (r := slotR r d h) (hl := hl) (k := K)
    (S := slotSet r d) (q := q) (f := commBuf m c) (((View.set_slice_whole _ _).trans (slotR_set r d h)).le)
  rw [comm_load] at H
  exact H

/-- A load of a slot whose value is not used. -/
theorem step_peekSlot (r d : ℕ) {h} {hl} {f} {K : Vec F S1x1x8x128 .f32 → Prog (TpuEff nD τ sig (Elt F) Λ₀ .tc) α} :
    slotPts c r d fullShare f ⊢ iprop((∀ v, slotPts c r d fullShare f -∗ run c (K v) Q)
      -∗ run c (.op (.load commM (slotR r d h).toLoadRect hl) K) Q) := by
  unfold slotPts
  have H := wp_load_rect (Q := Q) (Γ := .empty) (defs := defs₀ (F := F)) 𝒱₀ (c : Thread nD τ) none Set.univ (m := commM) (r := slotR r d h) (hl := hl) (k := K)
    (S := slotSet r d) (q := fullShare) (f := f) (((View.set_slice_whole _ _).trans (slotR_set r d h)).le)
  iintro Hs Hk
  iapply H $$ Hs
  iapply Hk

/-- Storing the device's own sums of slice `r`. -/
theorem step_storeSlot (r : ℕ) {h} {v : Vec F S1x1x8x128 .f32} (hv : v = stat m c r) {hx hm} {f} :
    slotPts c r 0 fullShare f ⊢ iprop((slotPts c r 0 fullShare (commBuf m c) -∗ run c (K ⟨⟩) Q)
      -∗ run c (.op (.store commM (slotR r 0 h) v Finset.univ hx hm) K) Q) := by
  subst hv
  unfold slotPts
  have H := wp_store (Q := Q) (Γ := .empty) (defs := defs₀ (F := F)) 𝒱₀ (c : Thread nD τ) none Set.univ (m := commM) (r := slotR r 0 h) (w := stat m c r) (Mk := Finset.univ) (hx := hx) (hm := hm) (k := K)
    (S := slotSet r 0) (f := f) (((View.set_slice_whole _ _).trans (slotR_set r 0 h)).le)
  have e := pointsTo_congr (U := UU) (Name := ℕ) (Lvl := ℕ) (Ix := Unit) (ℓ := (c : Thread nD τ).loc cc0_scratch4) (q := fullShare) (comm_store m c r h f)
  iintro Hs Hk
  iapply H $$ Hs
  iintro Hs
  iapply Hk
  ihave Hs := (Entails.of_eq e) $$ Hs
  iexact Hs

/-- A load of row slice `r` of the copied activations. -/
theorem step_loadRow (r : ℕ) (hr : r < 4) {o : ℕ} (ho : o = 128 * r) {h} {hl} {K : Vec F S4x128x256 .f32 → Prog (TpuEff nD τ sig (Elt F) Λ₀ .tc) α} :
    xvPts c r (xin m c) ⊢ iprop((xvPts c r (xin m c) -∗ run c (K (xrow m c r)) Q)
      -∗ run c (.op (.load xvM (rowR o h).toLoadRect hl) K) Q) := by
  unfold xvPts
  have H := wp_load_rect (Q := Q) (Γ := .empty) (defs := defs₀ (F := F)) 𝒱₀ (c : Thread nD τ) none Set.univ (m := xvM) (r := rowR o h) (hl := hl) (k := K)
    (S := rowSet r) (q := fullShare) (f := xin m c) (((View.set_slice_whole _ _).trans (rowR_set r ho h)).le)
  rw [xv_load m c ho hr h] at H
  exact H

/-- A load of row slice `r` of the result whose value is not used. -/
theorem step_peekOut (r : ℕ) {o : ℕ} (ho : o = 128 * r) {h} {hl} {f} {K : Vec F S4x128x256 .bf16 → Prog (TpuEff nD τ sig (Elt F) Λ₀ .tc) α} :
    outPts c r f ⊢ iprop((∀ v, outPts c r f -∗ run c (K v) Q) -∗ run c (.op (.load outM (rowR o h).toLoadRect hl) K) Q) := by
  unfold outPts
  have H := wp_load_rect (Q := Q) (Γ := .empty) (defs := defs₀ (F := F)) 𝒱₀ (c : Thread nD τ) none Set.univ (m := outM) (r := rowR o h) (hl := hl) (k := K)
    (S := rowSet r) (q := fullShare) (f := f) (((View.set_slice_whole _ _).trans (rowR_set r ho h)).le)
  iintro Hs Hk
  iapply H $$ Hs
  iapply Hk

/-- Storing row slice `r` of the result. -/
theorem step_storeOut (r : ℕ) {o : ℕ} (ho : o = 128 * r) {h} {v : Vec F S4x128x256 .bf16} (hv : v = outRow m c r) {hx hm} {f} :
    outPts c r f ⊢ iprop((outPts c r (outAt m c) -∗ run c (K ⟨⟩) Q) -∗ run c (.op (.store outM (rowR o h) v Finset.univ hx hm) K) Q) := by
  subst hv
  unfold outPts
  have H := wp_store (Q := Q) (Γ := .empty) (defs := defs₀ (F := F)) 𝒱₀ (c : Thread nD τ) none Set.univ (m := outM) (r := rowR o h) (w := outRow m c r) (Mk := Finset.univ) (hx := hx) (hm := hm) (k := K)
    (S := rowSet r) (f := f) (((View.set_slice_whole _ _).trans (rowR_set r ho h)).le)
  have e := pointsTo_congr (U := UU) (Name := ℕ) (Lvl := ℕ) (Ix := Unit) (ℓ := (c : Thread nD τ).loc cc0_stg0_0) (q := fullShare) (out_store m c ho h f)
  iintro Hs Hk
  iapply H $$ Hs
  iintro Hs
  iapply Hk
  ihave Hs := (Entails.of_eq e) $$ Hs
  iexact Hs

/-- A slot held whole is its three thirds. -/
theorem slot_thirds (r d : ℕ) (f : (cc0_scratch4 : Ref sig .tc).ty.Contents (Elt F)) :
    slotPts c r d fullShare f ⊣⊢ iprop(slotPts c r d (third 0) f ∗ slotPts c r d (third 1) f ∗ slotPts c r d (third 2) f) := by
  unfold slotPts third
  exact Ring.pointsTo_thirds _ _

end Steps

end Cert.AdaLN

end
-- ==== Proof.Body.lean ====
/-
# The body, row slice by row slice

A row slice's work is two stretches of the body: `row_start` (its copy waited for, its sums stored and sent to the three
peers) and `row_finish` (the six waits, the four loads, the result stored). The body is the local copies, the barrier and
these two stretches at `r = 0, 1, 2, 3`.
-/
module

public import proofs.«01_k».proof.Proof.Steps

@[expose] public section

noncomputable section

namespace Cert.AdaLN

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Semaphores at zero -/

/-- The counter of device `c`'s semaphore `n` at zero. -/
abbrev inZero (c : Dev nD) (n : ℕ) : sProp 𝕄 := semVal ((c : Thread nD τ), .dma (dsem n)) 0
/-- The six semaphores of slice `r`'s transfers, at zero. -/
def rowZero (c : Dev nD) (r : ℕ) : sProp 𝕄 :=
  iprop(semVal (sendCell c r 0) 0 ∗ semVal (recvCell c r 0) 0 ∗ semVal (sendCell c r 1) 0 ∗ semVal (recvCell c r 1) 0
    ∗ semVal (sendCell c r 2) 0 ∗ semVal (recvCell c r 2) 0)

/-! ## The two stretches -/

/-- The transfers of slice `r` to be started, and their slots at the peers. -/
def rowSends (c : Dev nD) (r : ℕ) : sProp 𝕄 :=
  iprop((sendRes c r 0 ∗ sendRes c r 1 ∗ sendRes c r 2)
    ∗ (∃ f, slotPts (peer c 1) r 1 fullShare f) ∗ (∃ f, slotPts (peer c 2) r 2 fullShare f) ∗ (∃ f, slotPts (peer c 3) r 3 fullShare f))
/-- Slice `r` sent: its transfers' credits and positions, and what its receives need. -/
def rowSent (c : Dev nD) (r : ℕ) : sProp 𝕄 := iprop(sent c r 0 ∗ sent c r 1 ∗ sent c r 2)
/-- The three waits for the peers' statistics of round `r`. -/
def rowRecvs (c : Dev nD) (r : ℕ) : sProp 𝕄 := iprop(recvRes c r 0 ∗ recvRes c r 1 ∗ recvRes c r 2)
/-- Slice `r`'s four slots of the exchange buffer, complete. -/
def rowSlots (c : Dev nD) (r : ℕ) : sProp 𝕄 :=
  iprop(slotPts c r 0 fullShare (commBuf m c) ∗ slotPts c r 1 fullShare (commBuf m c)
    ∗ slotPts c r 2 fullShare (commBuf m c) ∗ slotPts c r 3 fullShare (commBuf m c))

section Rows

variable {c : Dev nD} {α : Type} {Q : α → sProp (MT nD τ sig Unit (Elt F) ℕ UU ℕ)}

abbrev inSem (i : ℕ) (h : ∀ a, (![i] : Fin 1 → ℕ) a + S1.size a ≤ S7.size a) : DmaSem sig := ((cc0_scratch5.slice (Rect.unit (s := S7) ![i] S1.size h)).squeeze S_ squeezes_S1_S_).sem
abbrev sendSem (r k : ℕ) (h : ∀ a, (![r, k] : Fin 2 → ℕ) a + S1x1.size a ≤ S4x3.size a) : DmaSem sig := ((cc0_scratch6.slice (Rect.unit (s := S4x3) ![r, k] S1x1.size h)).squeeze S_ squeezes_S1x1_S_).sem
abbrev recvSem (r k : ℕ) (h : ∀ a, (![r, k] : Fin 2 → ℕ) a + S1x1.size a ≤ S4x3.size a) : DmaSem sig := ((cc0_scratch7.slice (Rect.unit (s := S4x3) ![r, k] S1x1.size h)).squeeze S_ squeezes_S1x1_S_).sem

set_option maxHeartbeats 1000000 in
/-- Slice `r` from its copy waited for to its three transfers started. -/
theorem row_start (r n : ℕ) (hr : r < 4) (hn : n + 3 * r = 9) {o : ℕ} (ho : o = 128 * r) {p₁ p₂ p₃ : Dev nD}
    (hp₁ : p₁ = peer c 1) (hp₂ : p₂ = peer c 2) (hp₃ : p₃ = peer c 3)
    {g : Vec F S4x128x256 .f32 → Vec F S1x1x8x128 .f32} (hg : g (xrow m c r) = stat m c r)
    {K : Vec F S4x128x256 .f32 → Prog (TpuEff nD τ sig (Elt F) Λ₀ .tc) α}
    {hi a₁ a₂ a₃ b₁ b₂ d₀ d₁ d₂ d₃ e₁ e₂ e₃ e₄ s₁ s₂ s₃ u₁ u₂ u₃ v₁ v₂ v₃ w₁ w₂ w₃ x₁ x₂ x₃} :
    records m ⊢ iprop(rowCopy m c r -∗ (∃ f, slotPts c r 0 fullShare f) -∗ rowSends c r -∗ owesE c (todo c (n + 3))
      -∗ (xvPts c r (xin m c) -∗ xPts m c r -∗ inZero c (1 + r) -∗ rowSent c r -∗ owesE c (todo c n) -∗ run c (K (xrow m c r)) Q)
      -∗ run c (.op (.waitDma2 (inSem r hi) (xM.slice (rowR o a₁) (fun _ => rfl)) (xvM.slice (rowR o a₂) (fun _ => rfl)) b₁ b₂) fun _ =>
        .op (.load xvM (rowR o a₃).toLoadRect e₁) fun v => .op (.load commM (slotR r 0 d₀).toLoadRect e₂) fun _ =>
        .op (.store commM (slotR r 0 d₀) (g v) Finset.univ e₃ e₄) fun _ =>
        .op (.enqueueDma (slotM r 0 d₀) (.remote (Dev.tc p₁) (slotM r 1 d₁) (.dma (sendSem r 0 s₁)) u₁) (.dma (recvSem r 0 s₁)) v₁ w₁ x₁) fun _ =>
        .op (.enqueueDma (slotM r 0 d₀) (.remote (Dev.tc p₂) (slotM r 2 d₂) (.dma (sendSem r 1 s₂)) u₂) (.dma (recvSem r 1 s₂)) v₂ w₂ x₂) fun _ =>
        .op (.enqueueDma (slotM r 0 d₀) (.remote (Dev.tc p₃) (slotM r 3 d₃) (.dma (sendSem r 2 s₃)) u₃) (.dma (recvSem r 2 s₃)) v₃ w₃ x₃) fun _ => K v) Q) := by
  unfold rowSends rowSent
  iintro #Hrec Hcopy ⟨%f, Hown⟩ ⟨⟨Hr1, Hr2, Hr3⟩, ⟨%f1, Hd1⟩, ⟨%f2, Hd2⟩, ⟨%f3, Hd3⟩⟩ HO Hk
  iapply (step_waitRow m r hr (inSem_eq r hi) ((above_todo c (n + 3) (by omega)).mono (by decide))) $$ Hrec Hcopy HO
  iintro Hxv Hx Hz HO
  iapply (step_loadRow m r hr ho) $$ Hxv
  iintro Hxv
  iapply (step_peekSlot r 0) $$ Hown
  iintro %_ Hown
  iapply (step_storeSlot m r hg) $$ Hown
  iintro Hown
  ihave ⟨H1, H2, H3⟩ := (slot_thirds r 0 (commBuf m c)).1 $$ Hown
  iapply (step_send m r 0 (n + 2) hr (by decide) (by omega) hp₁ (sendSem_eq r 0 s₁) (recvSem_eq r 0 s₁)) $$ Hrec Hr1 H1 Hd1 HO
  iintro Hs1 HO
  iapply (step_send m r 1 (n + 1) hr (by decide) (by omega) hp₂ (sendSem_eq r 1 s₂) (recvSem_eq r 1 s₂)) $$ Hrec Hr2 H2 Hd2 HO
  iintro Hs2 HO
  iapply (step_send m r 2 n hr (by decide) (by omega) hp₃ (sendSem_eq r 2 s₃) (recvSem_eq r 2 s₃)) $$ Hrec Hr3 H3 Hd3 HO
  iintro Hs3 HO
  iapply Hk $$ Hxv Hx Hz [Hs1 Hs2 Hs3] HO
  isplitl [Hs1]; · iexact Hs1
  isplitl [Hs2] <;> iassumption

set_option maxHeartbeats 1000000 in
/-- Slice `r` from its six waits to its rows of the result stored. -/
theorem row_finish (r : ℕ) (hr : r < 4) {o : ℕ} (ho : o = 128 * r)
    {g : Vec F S1x1x8x128 .f32 → Vec F S1x1x8x128 .f32 → Vec F S1x1x8x128 .f32 → Vec F S1x1x8x128 .f32 → Vec F S4x128x256 .bf16}
    (hg : g (stat m c r) (stat m (back c 1) r) (stat m (back c 2) r) (stat m (back c 3) r) = outRow m c r)
    {K : Prog (TpuEff nD τ sig (Elt F) Λ₀ .tc) α}
    {s₁ s₂ s₃ d₀ d₁ d₂ d₃ l₀ l₁ l₂ l₃ a₁ e₁ e₃ e₄ u₁ u₂ v₁ v₂ w₁ w₂ x₁ x₂ y₁ y₂ z₁ z₂} :
    records m ⊢ iprop(rowSent c r -∗ rowRecvs c r -∗ (∃ f, outPts c r f) -∗ owesE c []
      -∗ (rowSlots m c r -∗ rowZero c r -∗ outPts c r (outAt m c) -∗ owesE c [] -∗ run c K Q)
      -∗ run c (.op (.waitDma2 (sendSem r 0 s₁) (slotM r 1 d₁) (slotM r 0 d₀) u₁ u₂) fun _ =>
        .op (.waitDma2 (recvSem r 0 s₁) (slotM r 0 d₀) (slotM r 1 d₁) v₁ v₂) fun _ =>
        .op (.waitDma2 (sendSem r 1 s₂) (slotM r 2 d₂) (slotM r 0 d₀) w₁ w₂) fun _ =>
        .op (.waitDma2 (recvSem r 1 s₂) (slotM r 0 d₀) (slotM r 2 d₂) x₁ x₂) fun _ =>
        .op (.waitDma2 (sendSem r 2 s₃) (slotM r 3 d₃) (slotM r 0 d₀) y₁ y₂) fun _ =>
        .op (.waitDma2 (recvSem r 2 s₃) (slotM r 0 d₀) (slotM r 3 d₃) z₁ z₂) fun _ =>
        .op (.load commM (slotR r 0 d₀).toLoadRect l₀) fun x₀ => .op (.load commM (slotR r 1 d₁).toLoadRect l₁) fun x₁ =>
        .op (.load commM (slotR r 2 d₂).toLoadRect l₂) fun x₂ => .op (.load commM (slotR r 3 d₃).toLoadRect l₃) fun x₃ =>
        .op (.load outM (rowR o a₁).toLoadRect e₁) fun _ => .op (.store outM (rowR o a₁) (g x₀ x₁ x₂ x₃) Finset.univ e₃ e₄) fun _ => K) Q) := by
  unfold rowSent rowRecvs rowSlots rowZero
  iintro #Hrec ⟨Hs1, Hs2, Hs3⟩ ⟨Hr1, Hr2, Hr3⟩ ⟨%f, Hout⟩ HO Hk
  iapply (step_waitSend m r 0 hr (by decide) (sendSem_eq r 0 s₁)) $$ Hrec Hs1 HO
  iintro H1 Hzs1 HO
  iapply (step_waitRecv m r 0 hr (by decide) (recvSem_eq r 0 s₁)) $$ Hrec Hr1 HO
  iintro Hp1 Hzr1 HO
  iapply (step_waitSend m r 1 hr (by decide) (sendSem_eq r 1 s₂)) $$ Hrec Hs2 HO
  iintro H2 Hzs2 HO
  iapply (step_waitRecv m r 1 hr (by decide) (recvSem_eq r 1 s₂)) $$ Hrec Hr2 HO
  iintro Hp2 Hzr2 HO
  iapply (step_waitSend m r 2 hr (by decide) (sendSem_eq r 2 s₃)) $$ Hrec Hs3 HO
  iintro H3 Hzs3 HO
  iapply (step_waitRecv m r 2 hr (by decide) (recvSem_eq r 2 s₃)) $$ Hrec Hr3 HO
  iintro Hp3 Hzr3 HO
  ihave Hp0 := (slot_thirds r 0 (commBuf m c)).2 $$ [H1 H2 H3]
  · isplitl [H1]; · iexact H1
    isplitl [H2] <;> iassumption
  iapply (step_loadSlot m r 0) $$ Hp0
  iintro Hp0
  iapply (step_loadSlot m r 1) $$ Hp1
  iintro Hp1
  iapply (step_loadSlot m r 2) $$ Hp2
  iintro Hp2
  iapply (step_loadSlot m r 3) $$ Hp3
  iintro Hp3
  iapply (step_peekOut r ho) $$ Hout
  iintro %_ Hout
  iapply (step_storeOut m r ho (by rw [back_zero]; exact hg)) $$ Hout
  iintro Hout
  iapply Hk $$ [Hp0 Hp1 Hp2 Hp3] [Hzs1 Hzr1 Hzs2 Hzr2 Hzs3 Hzr3] Hout HO
  · isplitl [Hp0]; · iexact Hp0
    isplitl [Hp1]; · iexact Hp1
    isplitl [Hp2] <;> iassumption
  · isplitl [Hzs1]; · iexact Hzs1
    isplitl [Hzr1]; · iexact Hzr1
    isplitl [Hzs2]; · iexact Hzs2
    isplitl [Hzr2]; · iexact Hzr2
    isplitl [Hzs3] <;> iassumption

end Rows

/-! ## The buffers cut into slices and slots -/

/-- A separated family of four, written out. -/
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- The four row slices make up the array. -/
theorem biUnion_rows : (Finset.univ : Finset (Fin 4)).biUnion (fun r => rowSet r.val) = (Finset.univ : Finset S4x512x256.Idx) := by
  ext i
  simp only [Finset.mem_biUnion, Finset.mem_univ, true_and, iff_true, mem_rowSet]
  have h : (i 1).val < 512 := (i 1).isLt
  exact ⟨⟨(i 1).val / 128, by omega⟩, rfl⟩
/-- Two row slices have no element in common. -/
theorem disjoint_rows (t t' : Fin 4) (h : t ≠ t') : Disjoint (rowSet t.val) (rowSet t'.val) :=
  Finset.disjoint_left.mpr fun i hi hi' => h (Fin.ext ((mem_rowSet.mp hi).symm.trans (mem_rowSet.mp hi')))

/-- The sixteen slots make up the exchange buffer. -/
theorem biUnion_slots : (Finset.univ : Finset (Fin 4 × Fin 4)).biUnion (fun p => slotSet p.1.val p.2.val) = (Finset.univ : Finset S4x4x8x128.Idx) := by
  ext i
  simp only [Finset.mem_biUnion, Finset.mem_univ, true_and, iff_true, mem_slotSet]
  exact ⟨⟨⟨(i 0).val, (i 0).isLt⟩, ⟨(i 1).val, (i 1).isLt⟩⟩, rfl, rfl⟩
/-- Two slots have no element in common. -/
theorem disjoint_slots (p p' : Fin 4 × Fin 4) (h : p ≠ p') : Disjoint (slotSet p.1.val p.2.val) (slotSet p'.1.val p'.2.val) :=
  Finset.disjoint_left.mpr fun i hi hi' => h (Prod.ext (Fin.ext ((mem_slotSet.mp hi).1.symm.trans (mem_slotSet.mp hi').1))
    (Fin.ext ((mem_slotSet.mp hi).2.symm.trans (mem_slotSet.mp hi').2)))

/-- The activations, their copy and the result, each held whole, are their four row slices. -/
theorem x_rows (c : Dev nD) : buf c main_arg0 (xin m c) = iprop(xPts m c 0 ∗ xPts m c 1 ∗ xPts m c 2 ∗ xPts m c 3) := by
  refine Eq.trans ?_ (bigSep_fin4 (fun r => xPts m c r.val))
  exact (congrArg (fun S => (((c : Thread nD τ).loc main_arg0) ↦[S]{fullShare} xin m c : sProp 𝕄)) biUnion_rows.symm).trans
    (pointsTo_biUnion _ _ fun t _ t' _ h => disjoint_rows t t' h)
/-- The activations' scratch buffer is its four row slices. -/
theorem xv_rows (c : Dev nD) (f) : (buf c cc0_scratch0 f : sProp 𝕄) = iprop(xvPts c 0 f ∗ xvPts c 1 f ∗ xvPts c 2 f ∗ xvPts c 3 f) := by
  refine Eq.trans ?_ (bigSep_fin4 (fun r => xvPts c r.val f))
  exact (congrArg (fun S => (((c : Thread nD τ).loc cc0_scratch0) ↦[S]{fullShare} f : sProp 𝕄)) biUnion_rows.symm).trans
    (pointsTo_biUnion _ _ fun t _ t' _ h => disjoint_rows t t' h)
/-- The result's staging buffer is its four row slices. -/
theorem out_rows (c : Dev nD) (f) : (buf c cc0_stg0_0 f : sProp 𝕄) = iprop(outPts c 0 f ∗ outPts c 1 f ∗ outPts c 2 f ∗ outPts c 3 f) := by
  refine Eq.trans ?_ (bigSep_fin4 (fun r => outPts c r.val f))
  exact (congrArg (fun S => (((c : Thread nD τ).loc cc0_stg0_0) ↦[S]{fullShare} f : sProp 𝕄)) biUnion_rows.symm).trans
    (pointsTo_biUnion _ _ fun t _ t' _ h => disjoint_rows t t' h)

/-- The exchange buffer held whole is its sixteen slots, slice by slice or place by place. -/
theorem comm_rows (c : Dev nD) (f) : (buf c cc0_scratch4 f : sProp 𝕄)
    = bigSep Finset.univ fun r : Fin 4 => bigSep Finset.univ fun d : Fin 4 => slotPts c r.val d.val fullShare f := by
  rw [← bigSep_univ_prod (fun p : Fin 4 × Fin 4 => slotPts c p.1.val p.2.val fullShare f)]
  exact (congrArg (fun S => (((c : Thread nD τ).loc cc0_scratch4) ↦[S]{fullShare} f : sProp 𝕄)) biUnion_slots.symm).trans
    (pointsTo_biUnion _ _ fun t _ t' _ h => disjoint_slots t t' h)
/-- The exchange buffer is its slots, the slots of one distance together. -/
theorem comm_cols (c : Dev nD) (f) : (buf c cc0_scratch4 f : sProp 𝕄)
    = bigSep Finset.univ fun d : Fin 4 => bigSep Finset.univ fun r : Fin 4 => slotPts c r.val d.val fullShare f := by
  rw [comm_rows, bigSep_univ_comm]

/-- At entry: the slots `(r, 0)`, and for each other place the four slots to hand over. -/
theorem comm_enter (c : Dev nD) : iprop(∃ f, buf c cc0_scratch4 f) ⊢ (iprop(give c 0 ∗ give c 1 ∗ give c 2 ∗ give c 3) : sProp 𝕄) := by
  have h (d : ℕ) (f : (cc0_scratch4 : Ref sig .tc).ty.Contents (Elt F)) :
      (bigSep Finset.univ fun r : Fin 4 => slotPts c r.val d fullShare f) ⊢ (give c d : sProp 𝕄) := by
    rw [bigSep_fin4]
    unfold give
    show iprop(slotPts c 0 d fullShare f ∗ slotPts c 1 d fullShare f ∗ slotPts c 2 d fullShare f ∗ slotPts c 3 d fullShare f) ⊢ _
    iintro ⟨H0, H1, H2, H3⟩
    isplitl [H0]; · iexists f; iexact H0
    isplitl [H1]; · iexists f; iexact H1
    isplitl [H2]; · iexists f; iexact H2
    iexists f; iexact H3
  have h' (f : (cc0_scratch4 : Ref sig .tc).ty.Contents (Elt F)) : buf c cc0_scratch4 f ⊢ (iprop(give c 0 ∗ give c 1 ∗ give c 2 ∗ give c 3) : sProp 𝕄) := by
    rw [comm_cols, bigSep_fin4]
    exact BI.sep_mono (h 0 f) (BI.sep_mono (h 1 f) (BI.sep_mono (h 2 f) (h 3 f)))
  iintro ⟨%f, H⟩
  iapply (h' f)
  iexact H

/-- At exit: the four slices' slots are the buffer. -/
theorem comm_exit (c : Dev nD) : iprop(rowSlots m c 0 ∗ rowSlots m c 1 ∗ rowSlots m c 2 ∗ rowSlots m c 3) = buf c cc0_scratch4 (commBuf m c) := by
  rw [comm_rows, bigSep_fin4]
  simp only [bigSep_fin4]
  rfl

/-! ## The body -/

/-- A program that returns ends at once. -/
theorem run_ret {c : Dev nD} {v : PUnit} {Q : PUnit → sProp 𝕄} : Q v ⊢ run c (.ret v) Q := by
  rw [show run c (.ret v) Q = iprop(|={Set.univ}=> Q v) from rfl]
  exact fupd_intro

/-- The device's arguments, as launched. -/
def args (c : Dev nD) : sProp 𝕄 :=
  iprop(buf c main_arg0 (xin m c) ∗ buf c main_arg1 (tin m c) ∗ buf c main_arg2 (wsin m c) ∗ buf c main_arg3 (wshin m c))
/-- The kernel's scratch buffers, at any contents. -/
def scratch (c : Dev nD) : sProp 𝕄 :=
  iprop((∃ f, buf c cc0_scratch0 f) ∗ (∃ f, buf c cc0_scratch1 f) ∗ (∃ f, buf c cc0_scratch2 f) ∗ (∃ f, buf c cc0_scratch3 f) ∗ (∃ f, buf c cc0_scratch4 f))
/-- The semaphores of the local copies, at zero. -/
def inZeros (c : Dev nD) : sProp 𝕄 :=
  iprop(inZero c 1 ∗ inZero c 2 ∗ inZero c 3 ∗ inZero c 4 ∗ inZero c 5 ∗ inZero c 6 ∗ inZero c 7)
/-- What the device needs for the barrier: the duties it pays at its peers, its position and the credit of its own. -/
def barRes (c : Dev nD) : sProp 𝕄 :=
  iprop(dutyTok ER (barCell (peer c 1)) 0 2 ∗ dutyTok ER (barCell (peer c 2)) 0 1 ∗ dutyTok ER (barCell (peer c 3)) 0 0
    ∗ atPos ER (barCell c) 0 ∅ 0 ∗ cred (tallyAt (barCell c) () 3))
/-- What the device needs for slice `r`'s six transfers, three out and three in. -/
def rowRes (c : Dev nD) (r : ℕ) : sProp 𝕄 := iprop((sendRes c r 0 ∗ sendRes c r 1 ∗ sendRes c r 2) ∗ rowRecvs c r)

set_option maxRecDepth 65536 in
set_option maxHeartbeats 8000000 in
/-- The body on device `c`: every semaphore ends at zero, the arguments are as they were, the result is in its staging buffer. -/
theorem body_run (c : Dev nD) (Q : PUnit → sProp 𝕄) :
    records m ⊢ iprop(args m c -∗ scratch c -∗ (∃ f, buf c cc0_stg0_0 f) -∗ inZeros c -∗ barRes c
      -∗ iprop(rowRes c 0 ∗ rowRes c 1 ∗ rowRes c 2 ∗ rowRes c 3) -∗ owesE c (owed₀ c)
      -∗ (args m c -∗ scratch c -∗ buf c cc0_stg0_0 (outAt m c) -∗ inZeros c -∗ semVal (barCell c) 0
          -∗ iprop(rowZero c 0 ∗ rowZero c 1 ∗ rowZero c 2 ∗ rowZero c 3) -∗ owesE c [] -∗ Q ⟨⟩)
      -∗ run c (bodyAt0 t0_0) Q) := by
  show _ ⊢ iprop(_ -∗ _ -∗ _ -∗ _ -∗ _ -∗ _ -∗ _ -∗ _ -∗ run c (cc0_body xM (Memref.isWhole_whole _) tM (Memref.isWhole_whole _) wsM (Memref.isWhole_whole _) wshM (Memref.isWhole_whole _) outM (Memref.isWhole_whole _)
    xvM (Memref.isWhole_whole _) tvM (Memref.isWhole_whole _) wsvM (Memref.isWhole_whole _) wshvM (Memref.isWhole_whole _) commM (Memref.isWhole_whole _) cc0_scratch5 cc0_scratch6 cc0_scratch7) Q)
  rw [cc0_body_eq_skeleton]
  unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton,
    k0_part9_eq_skeleton, k0_part10_eq_skeleton, k0_part11_eq_skeleton, k0_part12_eq_skeleton, k0_part13_eq_skeleton, k0_part14_eq_skeleton, k0_part15_eq_skeleton, k0_part16_eq_skeleton,
    k0_part17_eq_skeleton, k0_part18_eq_skeleton, k0_part19_eq_skeleton, k0_part20_eq_skeleton, k0_part21_eq_skeleton, k0_part22_eq_skeleton, k0_part23_eq_skeleton, k0_part24_eq_skeleton,
    k0_part25_eq_skeleton, k0_part26_eq_skeleton]
  unfold k0_part1_skel k0_part2_skel k0_part3_skel k0_part4_skel k0_part5_skel k0_part6_skel k0_part7_skel k0_part8_skel k0_part9_skel k0_part10_skel k0_part11_skel k0_part12_skel k0_part13_skel
    k0_part14_skel k0_part15_skel k0_part16_skel k0_part17_skel k0_part18_skel k0_part19_skel k0_part20_skel k0_part21_skel k0_part22_skel k0_part23_skel k0_part24_skel k0_part25_skel k0_part26_skel
  simp only [semSignalWord, semWaitWord, Prog.lift, Prog.bind_op, Prog.bind_ret, Prog.pure_eq_ret, wp_deviceId]
  unfold args scratch inZeros barRes rowRes
  iintro #Hrec ⟨Hx, Ht, Hws, Hwsh⟩ ⟨⟨%f0, Hxv⟩, ⟨%f1, Htv⟩, ⟨%f2, Hwsv⟩, ⟨%f3, Hwshv⟩, Hcomm⟩ ⟨%g, Hout⟩ ⟨Hz1, Hz2, Hz3, Hz4, Hz5, Hz6, Hz7⟩
    ⟨Ht1, Ht2, Ht3, HatB, HcB⟩ ⟨⟨Hs0, Hr0⟩, ⟨Hs1, Hr1⟩, ⟨Hs2, Hr2⟩, ⟨Hs3, Hr3⟩⟩ HO Hk
  ihave ⟨Hx0, Hx1, Hx2, Hx3⟩ := (Entails.of_eq (x_rows m c)) $$ Hx
  ihave ⟨Hxv0, Hxv1, Hxv2, Hxv3⟩ := (Entails.of_eq (xv_rows c f0)) $$ Hxv
  ihave ⟨Hout0, Hout1, Hout2, Hout3⟩ := (Entails.of_eq (out_rows c g)) $$ Hout
  ihave ⟨Hg0, Hg1, Hg2, Hg3⟩ := (comm_enter c) $$ Hcomm
  -- the local copies
  iapply (step_copyRow m 0 rfl (inSem_eq 0 _)) $$ Hx0 Hxv0 Hz1
  iintro Hc0
  iapply (step_copyRow m 1 rfl (inSem_eq 1 _)) $$ Hx1 Hxv1 Hz2
  iintro Hc1
  iapply (step_copyRow m 2 rfl (inSem_eq 2 _)) $$ Hx2 Hxv2 Hz3
  iintro Hc2
  iapply (step_copyRow m 3 rfl (inSem_eq 3 _)) $$ Hx3 Hxv3 Hz4
  iintro Hc3
  iapply (step_copyT m (inSem_eq 4 _)) $$ Ht Htv Hz5
  iintro Hct
  iapply (step_copyWs m (inSem_eq 5 _)) $$ Hws Hwsv Hz6
  iintro Hcws
  iapply (step_copyWsh m (inSem_eq 6 _)) $$ Hwsh Hwshv Hz7
  iintro Hcwsh
  -- the barrier
  unfold owed₀
  iapply (step_signal m 1 3 (by decide) (by decide) rfl (dev1_eq c) 2 rfl) $$ Hrec Ht1 Hg3 HO
  iintro HO
  iapply (step_signal m 2 2 (by decide) (by decide) rfl (dev2_eq c) 1 rfl) $$ Hrec Ht2 Hg2 HO
  iintro HO
  iapply (step_signal m 3 1 (by decide) (by decide) rfl (dev3_eq c) 0 rfl) $$ Hrec Ht3 Hg1 HO
  iintro HO
  iapply (step_barrier m) $$ Hrec HatB HcB HO
  unfold barPay give
  iintro ⟨⟨Hp10, Hp11, Hp12, Hp13⟩, ⟨Hp20, Hp21, Hp22, Hp23⟩, ⟨Hp30, Hp31, Hp32, Hp33⟩⟩ HzB HO
  icases Hg0 with ⟨Hw0, Hw1, Hw2, Hw3⟩
  -- the four slices' sums, stored and sent
  iapply (row_start m 0 9 (by decide) rfl rfl (dev4_eq c) (dev5_eq c) (dev6_eq c) rfl) $$ Hrec Hc0 Hw0 [Hs0 Hp10 Hp20 Hp30] HO
  · unfold rowSends
    isplitl [Hs0]; · iexact Hs0
    isplitl [Hp10]; · iexact Hp10
    isplitl [Hp20] <;> iassumption
  iintro Hxv0 Hx0 Hz1 Hs0 HO
  iapply (row_start m 1 6 (by decide) rfl rfl (dev7_eq c) (dev8_eq c) (dev9_eq c) rfl) $$ Hrec Hc1 Hw1 [Hs1 Hp11 Hp21 Hp31] HO
  · unfold rowSends
    isplitl [Hs1]; · iexact Hs1
    isplitl [Hp11]; · iexact Hp11
    isplitl [Hp21] <;> iassumption
  iintro Hxv1 Hx1 Hz2 Hs1 HO
  iapply (row_start m 2 3 (by decide) rfl rfl (dev10_eq c) (dev11_eq c) (dev12_eq c) rfl) $$ Hrec Hc2 Hw2 [Hs2 Hp12 Hp22 Hp32] HO
  · unfold rowSends
    isplitl [Hs2]; · iexact Hs2
    isplitl [Hp12]; · iexact Hp12
    isplitl [Hp22] <;> iassumption
  iintro Hxv2 Hx2 Hz3 Hs2 HO
  iapply (row_start m 3 0 (by decide) rfl rfl (dev13_eq c) (dev14_eq c) (dev15_eq c) rfl) $$ Hrec Hc3 Hw3 [Hs3 Hp13 Hp23 Hp33] HO
  · unfold rowSends
    isplitl [Hs3]; · iexact Hs3
    isplitl [Hp13]; · iexact Hp13
    isplitl [Hp23] <;> iassumption
  iintro Hxv3 Hx3 Hz4 Hs3 HO
  -- the small operands
  ihave HO := (show (owesE c (todo c 0) : sProp 𝕄) ⊢ owesE c [] from Entails.of_eq rfl) $$ HO
  unfold tCopy wsCopy wshCopy
  iapply (step_waitCopy m 5 (by decide) (inSem_eq 4 _) rfl (fun _ hp => absurd hp List.not_mem_nil)) $$ Hrec Hct HO
  iintro ⟨Htv, Ht⟩ Hz5 HO
  iapply (step_waitCopy m 6 (by decide) (inSem_eq 5 _) rfl (fun _ hp => absurd hp List.not_mem_nil)) $$ Hrec Hcws HO
  iintro ⟨Hwsv, Hws⟩ Hz6 HO
  iapply (step_waitCopy m 7 (by decide) (inSem_eq 6 _) rfl (fun _ hp => absurd hp List.not_mem_nil)) $$ Hrec Hcwsh HO
  iintro ⟨Hwshv, Hwsh⟩ Hz7 HO
  iapply (step_loadT m (by decide)) $$ Htv
  iintro Htv
  iapply (step_loadWs m (by decide)) $$ Hwsv
  iintro Hwsv
  iapply (step_loadT m (by decide)) $$ Htv
  iintro Htv
  iapply (step_loadWsh m (by decide)) $$ Hwshv
  iintro Hwshv
  -- the four slices' results
  iapply (row_finish m 0 (by decide) rfl rfl) $$ Hrec Hs0 Hr0 [Hout0] HO
  · iexists g; iexact Hout0
  iintro Hd0 Hy0 Hout0 HO
  iapply (row_finish m 1 (by decide) rfl rfl) $$ Hrec Hs1 Hr1 [Hout1] HO
  · iexists g; iexact Hout1
  iintro Hd1 Hy1 Hout1 HO
  iapply (row_finish m 2 (by decide) rfl rfl) $$ Hrec Hs2 Hr2 [Hout2] HO
  · iexists g; iexact Hout2
  iintro Hd2 Hy2 Hout2 HO
  iapply (row_finish m 3 (by decide) rfl rfl) $$ Hrec Hs3 Hr3 [Hout3] HO
  · iexists g; iexact Hout3
  iintro Hd3 Hy3 Hout3 HO
  iapply (run_ret (c := c) (v := PUnit.unit) (Q := Q))
  iapply Hk $$ [Hx0 Hx1 Hx2 Hx3 Ht Hws Hwsh] [Hxv0 Hxv1 Hxv2 Hxv3 Htv Hwsv Hwshv Hd0 Hd1 Hd2 Hd3] [Hout0 Hout1 Hout2 Hout3] [Hz1 Hz2 Hz3 Hz4 Hz5 Hz6 Hz7] HzB [Hy0 Hy1 Hy2 Hy3] HO
  · isplitl [Hx0 Hx1 Hx2 Hx3]
    · iapply (Entails.of_eq (x_rows m c).symm)
      isplitl [Hx0]; · iexact Hx0
      isplitl [Hx1]; · iexact Hx1
      isplitl [Hx2] <;> iassumption
    isplitl [Ht]; · iexact Ht
    isplitl [Hws] <;> iassumption
  · isplitl [Hxv0 Hxv1 Hxv2 Hxv3]
    · iexists (xin m c)
      iapply (Entails.of_eq (xv_rows c (xin m c)).symm)
      isplitl [Hxv0]; · iexact Hxv0
      isplitl [Hxv1]; · iexact Hxv1
      isplitl [Hxv2] <;> iassumption
    isplitl [Htv]; · iexists _; iexact Htv
    isplitl [Hwsv]; · iexists _; iexact Hwsv
    isplitl [Hwshv]; · iexists _; iexact Hwshv
    iexists (commBuf m c)
    iapply (Entails.of_eq (comm_exit m c))
    isplitl [Hd0]; · iexact Hd0
    isplitl [Hd1]; · iexact Hd1
    isplitl [Hd2] <;> iassumption
  · iapply (Entails.of_eq (out_rows c (outAt m c)).symm)
    isplitl [Hout0]; · iexact Hout0
    isplitl [Hout1]; · iexact Hout1
    isplitl [Hout2] <;> iassumption
  · isplitl [Hz1]; · iexact Hz1
    isplitl [Hz2]; · iexact Hz2
    isplitl [Hz3]; · iexact Hz3
    isplitl [Hz4]; · iexact Hz4
    isplitl [Hz5]; · iexact Hz5
    isplitl [Hz6] <;> iassumption
  · isplitl [Hy0]; · iexact Hy0
    isplitl [Hy1]; · iexact Hy1
    isplitl [Hy2] <;> iassumption

end Cert.AdaLN

end
-- ==== Proof.Launch.lean ====
/-
# The launch

The proof data of the kernel's one grid point, the ghost resources of the exchange dealt to the devices, and the run:
from any memory with zero counters the kernel terminates, its arguments are unchanged, its result is `outAt`, every counter
is zero again.
-/
module

public import proofs.«01_k».proof.Proof.Body
public import Idealize.ShloMosaic.Lib.Pipeline.Launch
public import Idealize.ShloMosaic.Lib.Pipeline.Kit
public import Idealize.ShloMosaic.Lib.Pipeline.CollectiveSegs

@[expose] public section

noncomputable section

namespace Cert.AdaLN

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The proof data -/

/-- What the four rounds start from. -/
def rows (c : Dev nD) : sProp 𝕄 := iprop(rowRes c 0 ∗ rowRes c 1 ∗ rowRes c 2 ∗ rowRes c 3)
/-- What the four rounds leave: their counters at zero. -/
def rowZeros (c : Dev nD) : sProp 𝕄 := iprop(rowZero c 0 ∗ rowZero c 1 ∗ rowZero c 2 ∗ rowZero c 3)

/-- What device `c`'s body starts from, its scratch buffers aside. -/
def start (c : Dev nD) : sProp 𝕄 := iprop(records m ∗ args m c ∗ inZeros c ∗ barRes c ∗ rows c)
/-- What the body leaves: the arguments, the scratch buffers, every semaphore at zero. -/
def leftOver (c : Dev nD) : sProp 𝕄 := iprop(args m c ∗ scratch c ∗ inZeros c ∗ semVal (barCell c) 0 ∗ rowZeros c)

/-- What device `c` owes at launch, as a tally. -/
abbrev O₀ (c : Dev nD) : CellTallies nD τ sig Unit := tot (owed₀ c)

/-- What the pipeline's one window holds, and what the body has before and after it. -/
def dats (_ : Fin 1) (c : Dev nD) : Dat τ (Elt F) Unit ℕ UU ℕ cfg0 c where
  A w := m ((cfg0.win w).arr.view.loc (c : Thread nD τ))
  after w _ := match w with
    | ⟨0, _⟩ => outAt m c
  Φ t := match t with
    | ⟨0, _⟩ => iprop(start m c ∗ scratch c)
    | ⟨_ + 1, _⟩ => leftOver m c
  q _ := fullShare
  owed t := match t with
    | ⟨0, _⟩ => O₀ c
    | ⟨_ + 1, _⟩ => 0

/-- A buffer of device `c` whole at contents `X`, as the window's staging buffer is handed over. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- What the body starts from. -/
def bodyPre (c : Dev nD) : sProp 𝕄 :=
  iprop(iprop(start m c ∗ scratch c) ∗ (dats m 0 c).owesAt () t0_0.castSucc
    ∗ (∃ d, stg c cc0_stg0_0 ((dats m 0 c).before (0 : Fin 1) t0_0 d)))
/-- What the body ends with. -/
def bodyPost (c : Dev nD) : sProp 𝕄 :=
  iprop(leftOver m c ∗ (dats m 0 c).owesAt () t0_0.succ ∗ stg c cc0_stg0_0 (outAt m c))

/-- The body from what the launch hands it to what it must leave. -/
theorem body_sound (c : Dev nD) : bodyPre m c ⊢ run c (bodyAt0 t0_0) (fun _ => bodyPost m c) := by
  unfold bodyPre start
  iintro ⟨⟨⟨#Hrec, Hargs, Hz, Hbar, Hrows⟩, Hscr⟩, Ho, ⟨%d, %g, %hg, Hout⟩⟩
  unfold Dat.owesAt Pipeline.owesWithin
  icases Ho with ⟨%W, %hW, HO⟩
  rw [show (dats m 0 c).owed t0_0.castSucc = O₀ c from rfl]
  unfold rows
  iapply (body_run m c (fun _ => bodyPost m c)) $$ Hrec Hargs Hscr [Hout] Hz Hbar Hrows [HO]
  · iexists g; unfold buf; iexact Hout
  · unfold owesE; iexists W; iexact HO
  iintro Hargs Hscr Hout Hz HzB Hzr HO
  unfold bodyPost leftOver rowZeros owesE
  icases HO with ⟨%W', HO⟩
  isplitl [Hargs Hscr Hz HzB Hzr]
  · isplitl [Hargs]; · iexact Hargs
    isplitl [Hscr]; · iexact Hscr
    isplitl [Hz]; · iexact Hz
    isplitl [HzB] <;> iassumption
  isplitl [HO]
  · unfold Dat.owesAt Pipeline.owesWithin
    iexists W'
    isplitr
    · ipureintro; exact fun _ _ => Or.inl trivial
    iexact HO
  iexists (outAt m c)
  isplitr
  · ipureintro; rfl
  unfold buf; iexact Hout

/-- The pipeline's obligation at its one point. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  exact body_sound m c

/-! ## The semaphores and the duty tokens -/

/-- The kernel's own semaphores: seven of local copies, twelve send, twelve receive. -/
abbrev osem (i : Fin 31) : SemLoc sig := .dma (dsem (1 + i.val))
/-- These are all the semaphores that the window does not use, each once. -/
theorem ownSemFacts : Pipeline.OwnSemFacts cfg0.spec osem := by decide

/-- The exchange's twenty-five semaphores of a device are different. -/
theorem csem_injective : Function.Injective csem := by decide
/-- The exchange's cells of all devices are different. -/
theorem kcell_injective : Function.Injective (kcell : Dev nD × Fin 25 → GSem nD τ sig) := by
  rintro ⟨c, k⟩ ⟨c', k'⟩ h
  have h1 : c = c' := congrArg (fun g : GSem nD τ sig => g.1.1) h
  have h2 : k = k' := csem_injective (congrArg Prod.snd h)
  rw [h1, h2]
/-- The exchange's cells. -/
def cells : Finset (GSem nD τ sig) := Finset.univ.map ⟨kcell, kcell_injective⟩

/-- A device's duties by rows of three: row 0 its barrier's, rows 1 to 4 its sends', rows 5 to 8 its receives'. -/
abbrev Duty : Type := Fin 9 × Fin 3
set_option backward.proofsInPublic true in
def dutySem (p : Duty) : SemLoc sig := if p.1.val = 0 then .reg barS else .dma (dsem (5 + 3 * p.1.val + p.2.val))
set_option backward.proofsInPublic true in
def dutyName (p : Duty) : Fin 3 := if p.1.val = 0 then p.2 else 0
/-- How many devices ahead of its payer a duty's semaphore lies. -/
def ahead (p : Duty) : ℕ := if p.1.val = 0 then 3 - p.2.val else if p.1.val ≤ 4 then 0 else p.2.val + 1

/-- The token of a duty on a device's cell. -/
abbrev tokOf (cp : Dev nD × Duty) : GSem nD τ sig × ℕ × Fin 3 := (((cp.1 : Thread nD τ), dutySem cp.2), 0, dutyName cp.2)
/-- Different duties have different semaphores or names. -/
theorem duty_injective : Function.Injective fun p : Duty => (dutySem p, dutyName p) := by decide +kernel
/-- The tokens of different duties, or of different devices, are different. -/
theorem tokOf_injective : Function.Injective tokOf := by
  rintro ⟨c, p⟩ ⟨c', p'⟩ h
  have h1 : c = c' := congrArg (fun x : GSem nD τ sig × ℕ × Fin 3 => x.1.1.1) h
  have h2 : p = p' := duty_injective (congrArg (fun x : GSem nD τ sig × ℕ × Fin 3 => (x.1.2, x.2.2)) h)
  rw [h1, h2]
/-- The exchange's tokens. -/
def tokens : Finset (GSem nD τ sig × ℕ × Fin 3) := Finset.univ.map ⟨tokOf, tokOf_injective⟩

/-- What the proof's own resources start as. -/
def u₀ : UU := (initOf (Pipeline.cells cfgs cellOf_inj) (Pipeline.launchToks cfgs cellOf_inj), initOf cells tokens, 1)

/-- The token of duty `p` on device `c`'s cell. -/
def tok (c : Dev nD) (p : Duty) : sProp 𝕄 := dutyTok ER ((c : Thread nD τ), dutySem p) 0 (dutyName p)
/-- The tokens of device `c`'s own semaphores' duties, and of the duties it pays. -/
def ownToks (c : Dev nD) : sProp 𝕄 := bigSep Finset.univ fun p : Duty => tok c p
/-- The tokens of the duties that device `c` pays, on its peers' cells or on its own. -/
def payToks (c : Dev nD) : sProp 𝕄 := bigSep Finset.univ fun p : Duty => tok (peer c (ahead p)) p

/-- A duty is paid fewer than four devices back. -/
theorem ahead_lt (p : Duty) : ahead p < 4 := by revert p; decide
/-- Going `s` devices ahead. -/
def rot (s : ℕ) (h : s < 4) : Dev nD ≃ Dev nD := ⟨fun c => peer c s, fun c => back c s, fun c => back_peer c h, fun c => peer_back c h⟩

/-- All devices' tokens, dealt by owner or by payer. -/
theorem toks_deal : (bigSep Finset.univ fun c : Dev nD => (ownToks c : sProp 𝕄)) = bigSep Finset.univ fun c : Dev nD => payToks c := by
  unfold ownToks payToks
  rw [bigSep_univ_comm, bigSep_univ_comm (fun (c : Dev nD) (p : Duty) => (tok (peer c (ahead p)) p : sProp 𝕄))]
  exact bigSep_congr fun p _ => bigSep_univ_equiv (rot (ahead p) (ahead_lt p)) (fun c : Dev nD => (tok c p : sProp 𝕄))

/-- A separated family of three, written out. -/
theorem bigSep_fin3 (Φ : Fin 3 → sProp 𝕄) : bigSep Finset.univ Φ = iprop(Φ 0 ∗ Φ 1 ∗ Φ 2) := bigSep_univ_eq_bigSepL [0, 1, 2] (by decide) (by decide) Φ
/-- A separated family of nine, written out. -/
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ
/-- A separated family of twenty-five, written out. -/
theorem bigSep_fin25 (Φ : Fin 25 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12
    ∗ Φ 13 ∗ Φ 14 ∗ Φ 15 ∗ Φ 16 ∗ Φ 17 ∗ Φ 18 ∗ Φ 19 ∗ Φ 20 ∗ Φ 21 ∗ Φ 22 ∗ Φ 23 ∗ Φ 24) :=
  bigSep_univ_eq_bigSepL [0, 1, 2, 3, 4, 5, 6, 7, 8, 9, 10, 11, 12, 13, 14, 15, 16, 17, 18, 19, 20, 21, 22, 23, 24] (by decide) (by decide) Φ
/-- A separated family of thirty-one, written out. -/
theorem bigSep_fin31 (Φ : Fin 31 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12
    ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30) :=
  bigSep_univ_eq_bigSepL [0, 1, 2, 3, 4, 5, 6, 7, 8, 9, 10, 11, 12, 13, 14, 15, 16, 17, 18, 19, 20, 21, 22, 23, 24, 25, 26, 27, 28, 29, 30] (by decide) (by decide) Φ

/-- No device ahead is the device itself. -/
theorem peer_zero (c : Dev nD) : peer c 0 = c := by
  apply Fin.ext; have := c.isLt; simp only [peer, nD] at *; omega

/-- Device `c`'s part of the ghost resources: its barrier's, and each slice's transfers'. -/
def barLin (c : Dev nD) : sProp 𝕄 :=
  iprop(dutyTok ER (barCell (peer c 1)) 0 2 ∗ dutyTok ER (barCell (peer c 2)) 0 1 ∗ dutyTok ER (barCell (peer c 3)) 0 0 ∗ atPos ER (barCell c) 0 ∅ 0)
/-- Device `c`'s positions and tokens of round `r`. -/
def rowLin (c : Dev nD) (r : ℕ) : sProp 𝕄 :=
  iprop((sendRes c r 0 ∗ sendRes c r 1 ∗ sendRes c r 2) ∗ (atPos ER (recvCell c r 0) 0 ∅ 0 ∗ atPos ER (recvCell c r 1) 0 ∅ 0 ∗ atPos ER (recvCell c r 2) 0 ∅ 0))
/-- Device `c`'s positions and tokens, of the barrier and of the four rounds. -/
def linear (c : Dev nD) : sProp 𝕄 := iprop(barLin c ∗ rowLin c 0 ∗ rowLin c 1 ∗ rowLin c 2 ∗ rowLin c 3)

/-- The three send tokens of slice `r` at device `c`, and the three receive tokens it pays. -/
def sendToks (c : Dev nD) (r : ℕ) : sProp 𝕄 :=
  iprop(dutyTok ER (sendCell c r 0) 0 0 ∗ dutyTok ER (sendCell c r 1) 0 0 ∗ dutyTok ER (sendCell c r 2) 0 0)
/-- The tokens of the landings that device `c` makes at its peers in round `r`. -/
def recvToks (c : Dev nD) (r : ℕ) : sProp 𝕄 :=
  iprop(dutyTok ER (recvCell (peer c 1) r 0) 0 0 ∗ dutyTok ER (recvCell (peer c 2) r 1) 0 0 ∗ dutyTok ER (recvCell (peer c 3) r 2) 0 0)
/-- The tokens a device pays with, of the barrier first and then round by round. -/
theorem payToks_eq (c : Dev nD) : (payToks c : sProp 𝕄)
    = iprop((dutyTok ER (barCell (peer c 3)) 0 0 ∗ dutyTok ER (barCell (peer c 2)) 0 1 ∗ dutyTok ER (barCell (peer c 1)) 0 2)
      ∗ sendToks c 0 ∗ sendToks c 1 ∗ sendToks c 2 ∗ sendToks c 3 ∗ recvToks c 0 ∗ recvToks c 1 ∗ recvToks c 2 ∗ recvToks c 3) := by
  unfold payToks
  rw [bigSep_univ_prod, bigSep_fin9]
  simp only [bigSep_fin3]
  have h : ∀ r, (sendToks c r : sProp 𝕄) = sendToks (peer c 0) r := fun r => by rw [peer_zero]
  rw [h 0, h 1, h 2, h 3]
  rfl

/-- The positions and tokens of one round, gathered. -/
theorem rowLin_intro (c : Dev nD) (r : ℕ) :
    iprop((atPos ER (sendCell c r 0) 0 ∅ 0 ∗ atPos ER (sendCell c r 1) 0 ∅ 0 ∗ atPos ER (sendCell c r 2) 0 ∅ 0)
      ∗ (atPos ER (recvCell c r 0) 0 ∅ 0 ∗ atPos ER (recvCell c r 1) 0 ∅ 0 ∗ atPos ER (recvCell c r 2) 0 ∅ 0) ∗ sendToks c r ∗ recvToks c r) ⊢ (rowLin c r : sProp 𝕄) := by
  unfold rowLin sendRes sendToks recvToks
  iintro ⟨⟨Ha0, Ha1, Ha2⟩, Hv, ⟨Hs0, Hs1, Hs2⟩, Hr0, Hr1, Hr2⟩
  isplitr [Hv]
  · isplitl [Ha0 Hs0 Hr0]
    · isplitl [Ha0]; · iexact Ha0
      isplitl [Hs0] <;> iassumption
    isplitl [Ha1 Hs1 Hr1]
    · isplitl [Ha1]; · iexact Ha1
      isplitl [Hs1] <;> iassumption
    isplitl [Ha2]; · iexact Ha2
    isplitl [Hs2] <;> iassumption
  iexact Hv

/-- The positions and tokens of one device, gathered. -/
theorem linear_intro (c : Dev nD) : iprop((bigSep Finset.univ fun k : Fin 25 => atPos ER (kcell (c, k)) 0 ∅ 0) ∗ payToks c) ⊢ (linear c : sProp 𝕄) := by
  rw [payToks_eq, bigSep_fin25]
  unfold linear barLin
  iintro ⟨⟨A0, A1, A2, A3, A4, A5, A6, A7, A8, A9, A10, A11, A12, A13, A14, A15, A16, A17, A18, A19, A20, A21, A22, A23, A24⟩,
    ⟨B0, B1, B2⟩, S0, S1, S2, S3, R0, R1, R2, R3⟩
  isplitl [A0 B0 B1 B2]
  · isplitl [B2]; · iexact B2
    isplitl [B1]; · iexact B1
    isplitl [B0]; · iexact B0
    iexact A0
  isplitl [A1 A2 A3 A13 A14 A15 S0 R0]
  · iapply (rowLin_intro (F := F) c 0)
    isplitl [A1 A2 A3]
    · isplitl [A1]; · iexact A1
      isplitl [A2]; · iexact A2
      iexact A3
    isplitl [A13 A14 A15]
    · isplitl [A13]; · iexact A13
      isplitl [A14]; · iexact A14
      iexact A15
    isplitl [S0]; · iexact S0
    iexact R0
  isplitl [A4 A5 A6 A16 A17 A18 S1 R1]
  · iapply (rowLin_intro (F := F) c 1)
    isplitl [A4 A5 A6]
    · isplitl [A4]; · iexact A4
      isplitl [A5]; · iexact A5
      iexact A6
    isplitl [A16 A17 A18]
    · isplitl [A16]; · iexact A16
      isplitl [A17]; · iexact A17
      iexact A18
    isplitl [S1]; · iexact S1
    iexact R1
  isplitl [A7 A8 A9 A19 A20 A21 S2 R2]
  · iapply (rowLin_intro (F := F) c 2)
    isplitl [A7 A8 A9]
    · isplitl [A7]; · iexact A7
      isplitl [A8]; · iexact A8
      iexact A9
    isplitl [A19 A20 A21]
    · isplitl [A19]; · iexact A19
      isplitl [A20]; · iexact A20
      iexact A21
    isplitl [S2]; · iexact S2
    iexact R2
  iapply (rowLin_intro (F := F) c 3)
  isplitl [A10 A11 A12]
  · isplitl [A10]; · iexact A10
    isplitl [A11]; · iexact A11
    iexact A12
  isplitl [A22 A23 A24]
  · isplitl [A22]; · iexact A22
    isplitl [A23]; · iexact A23
    iexact A24
  isplitl [S3]; · iexact S3
  iexact R3

/-! ## The ghost resources dealt -/

/-- What the launch element deals device `c`. -/
def G (c : Dev nD) : sProp 𝕄 :=
  iprop((bigSep Finset.univ fun k : Fin 25 => roundState ER (exRd m) (kcell (c, k)) 0)
    ∗ (bigSep Finset.univ fun k : Fin 25 => reached ER (kcell (c, k)) 0)
    ∗ (bigSep Finset.univ fun k : Fin 25 => atPos ER (kcell (c, k)) 0 ∅ 0) ∗ ownToks c)

/-- Every cell's record. -/
def recs : sProp 𝕄 := bigSep Finset.univ fun ck : Dev nD × Fin 25 => cellRec m (kcell ck)
/-- The records may be used any number of times. -/
instance recs_persistent : BI.Persistent (recs (F := F) m) := by unfold recs; infer_instance
/-- What the global step makes of it. -/
def G' (c : Dev nD) : sProp 𝕄 := iprop(recs m ∗ linear c ∗ inZeros c)

/-- The exchange's starting resources are shared out over the devices. -/
theorem fund_exchange : BI.own (ER (initOf cells tokens)) ⊢ (|==> bigSep Finset.univ (G m) : sProp 𝕄) := by
  have hX (Φ : GSem nD τ sig → sProp 𝕄) : bigSep cells Φ = bigSep Finset.univ fun c : Dev nD => bigSep Finset.univ fun k : Fin 25 => Φ (kcell (c, k)) := by
    unfold cells; rw [bigSep_map, bigSep_univ_prod]; rfl
  have hT : bigSep tokens (fun x => (dutyTok ER x.1 x.2.1 x.2.2 : sProp 𝕄)) = bigSep Finset.univ fun c : Dev nD => ownToks c := by
    unfold tokens; rw [bigSep_map, bigSep_univ_prod]; rfl
  iintro HX
  imod (Rounds.fund ER (exRd m) cells tokens) $$ HX with ⟨Hst, Hr, Hat, Htok⟩
  imodintro
  ihave Hst' := (Entails.of_eq (hX fun g => roundState ER (exRd m) g 0)) $$ Hst
  ihave Hr' := (Entails.of_eq (hX fun g => reached ER g 0)) $$ Hr
  ihave Hat' := (Entails.of_eq (hX fun g => atPos ER g 0 ∅ 0)) $$ Hat
  ihave Htok' := (Entails.of_eq hT) $$ Htok
  unfold G; simp only [bigSep_sep']
  isplitl [Hst']; · iexact Hst'
  isplitl [Hr']; · iexact Hr'
  isplitl [Hat']; · iexact Hat'
  iexact Htok'

/-- The one counter that outlives the kernel is the barrier's. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The launch's semaphores at zero: those of the local copies, and the exchange's. -/
theorem sems0_split (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 25 => semVal (kcell (c, k)) 0) ∗ inZeros c) : sProp 𝕄) := by
  unfold Pipeline.ownSems0 inZeros
  rw [unscopedSems0_eq, bigSep_fin31, bigSep_fin25]
  iintro ⟨⟨Z0, Z1, Z2, Z3, Z4, Z5, Z6, A1, A2, A3, A4, A5, A6, A7, A8, A9, A10, A11, A12, A13, A14, A15, A16, A17, A18, A19, A20, A21, A22, A23, A24⟩, HB⟩
  isplitr [Z0 Z1 Z2 Z3 Z4 Z5 Z6]
  · isplitl [HB]; · iexact HB
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [A14]; · iexact A14
    isplitl [A15]; · iexact A15
    isplitl [A16]; · iexact A16
    isplitl [A17]; · iexact A17
    isplitl [A18]; · iexact A18
    isplitl [A19]; · iexact A19
    isplitl [A20]; · iexact A20
    isplitl [A21]; · iexact A21
    isplitl [A22]; · iexact A22
    isplitl [A23]; · iexact A23
    iexact A24
  · isplitl [Z0]; · iexact Z0
    isplitl [Z1]; · iexact Z1
    isplitl [Z2]; · iexact Z2
    isplitl [Z3]; · iexact Z3
    isplitl [Z4]; · iexact Z4
    isplitl [Z5]; · iexact Z5
    iexact Z6

/-- One device's invariants allocated. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 25 => cellRec m (kcell (c, k)))
          ∗ (bigSep Finset.univ fun k : Fin 25 => atPos ER (kcell (c, k)) 0 ∅ 0) ∗ ownToks c ∗ inZeros c) := by
  unfold G
  iintro ⟨Hos, Hus, Hst, Hr, Hat, Htok⟩
  ihave ⟨Hv, Hz⟩ := (sems0_split (F := F) c) $$ [Hos Hus]
  · isplitl [Hos] <;> iassumption
  imod (show iprop((bigSep Finset.univ fun k : Fin 25 => semVal (kcell (c, k)) 0) ∗ bigSep Finset.univ fun k : Fin 25 => roundState ER (exRd m) (kcell (c, k)) 0)
      ⊢ (|={Set.univ}=> bigSep Finset.univ fun k : Fin 25 => iprop(∃ κ : ℕ, cellInv ER (exRd m) κ (kcell (c, k))) : sProp 𝕄) from by
        rw [← bigSep_sep']
        exact (bigSep_mono fun k _ => (Rounds.body_intro ER (exRd m) (kcell (c, k))).trans inv_alloc).trans (bigSep_fupd _ _)) $$ [Hv Hst] with Hinv
  · isplitl [Hv] <;> iassumption
  imodintro
  isplitl [Hinv Hr]
  · unfold cellRec
    rw [bigSep_sep']
    isplitl [Hinv] <;> iassumption
  isplitl [Hat]; · iexact Hat
  isplitl [Htok] <;> iassumption

/-- A persistent fact goes to every device. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The records are common to all devices, and each device has the tokens that it pays with. -/
theorem regroup :
    (bigSep Finset.univ fun c : Dev nD => iprop((bigSep Finset.univ fun k : Fin 25 => cellRec m (kcell (c, k)))
          ∗ (bigSep Finset.univ fun k : Fin 25 => atPos ER (kcell (c, k)) 0 ∅ 0) ∗ ownToks c ∗ inZeros c) : sProp 𝕄)
      ⊢ bigSep Finset.univ (G' m) := by
  rw [bigSep_sep', bigSep_sep', bigSep_sep', toks_deal, ← bigSep_univ_prod (fun ck : Dev nD × Fin 25 => cellRec m (kcell ck)),
    show (bigSep Finset.univ fun ck : Dev nD × Fin 25 => cellRec m (kcell ck)) = recs m from rfl]
  refine BIBase.Entails.trans ?_ (bigSep_with_persistent (R := recs m)
    (Φ := fun c : Dev nD => iprop((bigSep Finset.univ fun k : Fin 25 => atPos ER (kcell (c, k)) 0 ∅ 0) ∗ payToks c ∗ inZeros c)) fun c _ => ?_)
  · rw [bigSep_sep', bigSep_sep']
  · unfold G'
    iintro ⟨HR, Hat, Htok, Hz⟩
    isplitl [HR]; · iexact HR
    isplitl [Hat Htok]
    · iapply (linear_intro (F := F) c)
      isplitl [Hat] <;> iassumption
    iexact Hz

/-- The global step: all devices' semaphores at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- Device `d`'s debts by number of semaphore, and what each is worth. -/
def debts (d : Dev nD) : List (Dev nD × Fin 25) :=
  [(peer d 1, 0), (peer d 2, 0), (peer d 3, 0), (peer d 1, 13), (peer d 2, 14), (peer d 3, 15), (peer d 1, 16), (peer d 2, 17), (peer d 3, 18),
    (peer d 1, 19), (peer d 2, 20), (peer d 3, 21), (peer d 1, 22), (peer d 2, 23), (peer d 3, 24)]
/-- What a payment on a cell is worth: one on the barrier's, a slot's bytes on any other. -/
def worth (i : Fin 25) : ℕ := if i.val = 0 then 1 else N
/-- A device's debts at launch are those of the table, each worth what its cell counts. -/
theorem owed₀_eq (d : Dev nD) : owed₀ d = (debts d).map fun q => (kcell q, worth q.2) := rfl

/-- A list's tally at a cell is the number of its entries there, each worth the same. -/
theorem tot_debts (q : Dev nD × Fin 25) : ∀ l : List (Dev nD × Fin 25), tot (l.map fun q => (kcell q, worth q.2)) (kcell q) () = l.count q * worth q.2
  | [] => by show 0 = _; rw [List.count_nil, Nat.zero_mul]
  | p :: l => by
    rw [List.map_cons]
    unfold tot
    rw [Pi.add_apply, Finsupp.add_apply, tot_debts q l, tallyAt_apply, List.count_cons, Nat.add_mul]
    congr 1
    by_cases h : p = q
    · subst h; rw [if_pos ⟨rfl, rfl⟩]; simp
    · rw [if_neg fun h' => h (kcell_injective h'.1).symm]; simp [h]

/-- All devices together owe three signals on each barrier and one landing on each receive semaphore. -/
theorem debts_count (q : Dev nD × Fin 25) : ∑ d : Dev nD, (debts d).count q = if q.2.val = 0 then 3 else if 13 ≤ q.2.val then 1 else 0 := by
  revert q; decide +kernel

/-- A semaphore's credit at launch is what all devices owe it. -/
theorem launch_credit (q : Dev nD × Fin 25) : tallyOn (kcell q) (launchCredit (Pipeline.owing O₀) 0 (kcell q))
    = (tallyAt (kcell q) () ((if q.2.val = 0 then 3 else if 13 ≤ q.2.val then 1 else 0) * worth q.2) : CellTallies nD τ sig Unit) := by
  unfold tallyAt; refine congrArg _ (Finsupp.ext fun u => ?_); cases u
  rw [Pipeline.launchCredit_owing, Finsupp.single_eq_same, ← debts_count, Finset.sum_mul]
  exact Finset.sum_congr rfl fun d _ => by rw [show O₀ d = tot (owed₀ d) from rfl, owed₀_eq, tot_debts]

/-- Slice `r`'s receive credits. -/
def recvCreds (c : Dev nD) (r : ℕ) : sProp 𝕄 :=
  iprop(cred (tallyAt (recvCell c r 0) () N) ∗ cred (tallyAt (recvCell c r 1) () N) ∗ cred (tallyAt (recvCell c r 2) () N))

/-- At launch each device gets the credit of its three barrier signals and of its twelve landings. -/
theorem creds (c : Dev nD) : (Pipeline.launchCred O₀ c : sProp 𝕄)
    ⊢ iprop(cred (tallyAt (barCell c) () 3) ∗ recvCreds c 0 ∗ recvCreds c 1 ∗ recvCreds c 2 ∗ recvCreds c 3) := by
  have h0 : (Pipeline.launchCred O₀ c : sProp 𝕄)
      ⊢ bigSep Finset.univ fun k : Fin 25 => cred (tallyAt (kcell (c, k)) () ((if k.val = 0 then 3 else if 13 ≤ k.val then 1 else 0) * worth k)) := by
    unfold Pipeline.launchCred
    refine (bigSep_subset (Finset.subset_univ (Finset.univ.map ⟨csem, csem_injective⟩))).trans ?_
    rw [bigSep_map]
    exact bigSep_mono fun k _ => Entails.of_eq (congrArg cred (launch_credit (c, k)))
  refine h0.trans ?_
  rw [bigSep_fin25]
  have hN : ∀ g : GSem nD τ sig, (cred (tallyAt g () (1 * N)) : sProp 𝕄) ⊢ cred (tallyAt g () N) := fun g => Entails.of_eq (by rw [Nat.one_mul])
  unfold recvCreds
  iintro ⟨A0, -, -, -, -, -, -, -, -, -, -, -, -, A13, A14, A15, A16, A17, A18, A19, A20, A21, A22, A23, A24⟩
  isplitl [A0]; · iexact A0
  isplitl [A13 A14 A15]
  · isplitl [A13]; · iapply (hN _); iexact A13
    isplitl [A14]; · iapply (hN _); iexact A14
    iapply (hN _); iexact A15
  isplitl [A16 A17 A18]
  · isplitl [A16]; · iapply (hN _); iexact A16
    isplitl [A17]; · iapply (hN _); iexact A17
    iapply (hN _); iexact A18
  isplitl [A19 A20 A21]
  · isplitl [A19]; · iapply (hN _); iexact A19
    isplitl [A20]; · iapply (hN _); iexact A20
    iapply (hN _); iexact A21
  isplitl [A22]; · iapply (hN _); iexact A22
  isplitl [A23]; · iapply (hN _); iexact A23
  iapply (hN _); iexact A24

/-! ## The theorem's side conditions -/

/-- A round's positions and tokens with its credits are what the round starts from. -/
theorem rowRes_intro (c : Dev nD) (r : ℕ) : iprop(rowLin c r ∗ recvCreds c r) ⊢ (rowRes c r : sProp 𝕄) := by
  unfold rowLin recvCreds rowRes rowRecvs recvRes
  iintro ⟨⟨Hs, H0, H1, H2⟩, C0, C1, C2⟩
  isplitl [Hs]; · iexact Hs
  isplitl [H0 C0]
  · isplitl [H0] <;> iassumption
  isplitl [H1 C1]
  · isplitl [H1] <;> iassumption
  isplitl [H2] <;> iassumption

/-- What the launch leaves outside the window is the four arguments. -/
theorem args_eq (c : Dev nD) : (Pipeline.unscopedRestP Pipeline.Prefetch.none cfg0.spec c (fun b => m ((c : Thread nD τ).loc b)) : sProp 𝕄) = args m c := by
  rw [Pipeline.unscopedRestP_none]
  exact unscopedRest0_eq c (fun b => m ((c : Thread nD τ).loc b))

/-- What the launch gives a device is what its body starts from, less the scratch buffers. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [args_eq]
  unfold G' linear
  iintro ⟨Hargs, Hlev, Hcr, -, Hrec, ⟨Hbar, R0, R1, R2, R3⟩, Hz⟩
  ihave ⟨CB, C0, C1, C2, C3⟩ := (creds (F := F) c) $$ Hcr
  imodintro
  unfold start records rows barRes barLin recs
  icases Hbar with ⟨B1, B2, B3, BA⟩
  isplitl
  · isplitl [Hrec Hlev]
    · isplitl [Hrec] <;> iassumption
    isplitl [Hargs]; · iexact Hargs
    isplitl [Hz]; · iexact Hz
    isplitl [B1 B2 B3 BA CB]
    · isplitl [B1]; · iexact B1
      isplitl [B2]; · iexact B2
      isplitl [B3]; · iexact B3
      isplitl [BA] <;> iassumption
    isplitl [R0 C0]
    · iapply (rowRes_intro (F := F) c 0)
      isplitl [R0] <;> iassumption
    isplitl [R1 C1]
    · iapply (rowRes_intro (F := F) c 1)
      isplitl [R1] <;> iassumption
    isplitl [R2 C2]
    · iapply (rowRes_intro (F := F) c 2)
      isplitl [R2] <;> iassumption
    iapply (rowRes_intro (F := F) c 3)
    isplitl [R3] <;> iassumption
  · iempintro

/-- The launch's scoped buffers are the kernel's scratch buffers. -/
theorem scratch_eq (c : Dev nD) : (Pipeline.scopedRest cfg0.spec c : sProp 𝕄) = scratch c := scopedRest0_eq c

/-- The body's start is made of what the launch gives and the scratch buffers. -/
theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ scratch c) from rfl, scratch_eq]
  iintro ⟨Hs, -, Hr⟩
  isplitl [Hs] <;> iassumption

/-- The body's end gives back the arguments, the counters at zero and the scratch buffers. -/
theorem leave (c : Dev nD) :
    (dats m 0 c).Φ (Fin.last cfg0.N) ⊢ iprop(iprop(args m c ∗ unscopedSems0 c) ∗ Pipeline.ownSems0 osem c ∗ Pipeline.scopedRest cfg0.spec c) := by
  rw [show (dats m 0 c).Φ (Fin.last cfg0.N) = leftOver m c from rfl, scratch_eq, unscopedSems0_eq]
  unfold Pipeline.ownSems0 leftOver inZeros rowZeros rowZero
  rw [bigSep_fin31]
  iintro ⟨Hargs, Hscr, ⟨Z0, Z1, Z2, Z3, Z4, Z5, Z6⟩, HzB, ⟨S0, V0, S1, V1, S2, V2⟩, ⟨S3, V3, S4, V4, S5, V5⟩, ⟨S6, V6, S7, V7, S8, V8⟩, S9, V9, S10, V10, S11, V11⟩
  isplitl [Hargs HzB]
  · isplitl [Hargs] <;> iassumption
  isplitr [Hscr]
  · isplitl [Z0]; · iexact Z0
    isplitl [Z1]; · iexact Z1
    isplitl [Z2]; · iexact Z2
    isplitl [Z3]; · iexact Z3
    isplitl [Z4]; · iexact Z4
    isplitl [Z5]; · iexact Z5
    isplitl [Z6]; · iexact Z6
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [V0]; · iexact V0
    isplitl [V1]; · iexact V1
    isplitl [V2]; · iexact V2
    isplitl [V3]; · iexact V3
    isplitl [V4]; · iexact V4
    isplitl [V5]; · iexact V5
    isplitl [V6]; · iexact V6
    isplitl [V7]; · iexact V7
    isplitl [V8]; · iexact V8
    isplitl [V9]; · iexact V9
    isplitl [V10] <;> iassumption
  iexact Hscr

/-- The window's own waits are allowed: they stand at the lowest level. -/
theorem waits (c : Dev nD) : (levAts L lv : sProp 𝕄) ⊢ Pipeline.cellsWaits cfgs (dats m) () 0 c :=
  Pipeline.cellsWaits_intro cfgs (dats m) () 0 c fun w s t => by
    have hlv : lv ((c : Thread nD τ), .dma ((cfg0.win w).sem s)) () ≤ 0 := by
      fin_cases w; fin_cases s; exact Nat.le_of_eq rfl
    rcases t with ⟨_ | _, ht⟩
    · exact mayWait_of_above c _ hlv (above_owed₀ c)
    · exact mayWait_of_above c _ hlv (l := []) (fun _ hp => absurd hp List.not_mem_nil)

/-! ## The run -/

/-- Device `c`'s arguments in a final memory, and its semaphores no launch owns. -/
def Ends (c : Dev nD) (s : MemSt nD τ sig (Elt F)) : Prop :=
  (∀ b ∈ [main_arg0, main_arg1, main_arg2, main_arg3], s.mem ((c : Thread nD τ).loc b) = m ((c : Thread nD τ).loc b))
    ∧ ∀ sm : SemLoc sig, sm.isScoped .tc = false → s.sem ((c.tc : Thread nD τ), sm) = 0

/-- What a device holds at the end is what the final memory holds. -/
theorem ends_read (c : Dev nD) (s' : Phys nD τ sig (Elt F)) :
    iprop(iprop(args m c ∗ unscopedSems0 c) ∗ emp ∗ SI s') ⊢ |={Set.univ}=> (iprop(⌜Ends m c s'.mem⌝ ∗ SI s') : sProp 𝕄) := by
  unfold args buf
  iintro ⟨⟨⟨H0, H1, H2, H3⟩, Hu⟩, -, HSI⟩
  icombine HSI H0 gives %h0
  icombine HSI H1 gives %h1
  icombine HSI H2 gives %h2
  icombine HSI H3 gives %h3
  imod (Pipeline.unscopedSems0_read (X := unscopedSems0 c) (c := c) fupd_intro s') $$ [Hu HSI] with ⟨%hu, HSI⟩
  · isplitl [Hu] <;> iassumption
  imodintro
  isplitr
  · ipureintro
    refine ⟨fun b hb => ?_, hu⟩
    simp only [List.mem_cons, List.not_mem_nil, or_false] at hb
    rcases hb with rfl | rfl | rfl | rfl
    exacts [Buf.eq_of_forall_mem_univ h0, Buf.eq_of_forall_mem_univ h1, Buf.eq_of_forall_mem_univ h2, Buf.eq_of_forall_mem_univ h3]
  iexact HSI

/-- What every final state satisfies. -/
def Post (r : PUnit × MemSt nD τ sig (Elt F)) : Prop :=
  (∀ c : Dev nD, r.2.mem ((c : Thread nD τ).loc main_v1) = (dats m 0 c).arrAt (0 : Fin 1) cfg0.N
    ∧ ∀ b ∈ [main_arg0, main_arg1, main_arg2, main_arg3], r.2.mem ((c : Thread nD τ).loc b) = m ((c : Thread nD τ).loc b))
  ∧ r.2.sem = fun _ => 0

set_option maxRecDepth 8000 in
/-- For any float values, from any memory with zero counters: every fair execution of the four devices' kernels terminates;
    each final state has each device's result, its arguments unchanged and every counter at zero. -/
theorem run_main : θ_run defs (onTc (τ := τ) (main (F := F))) ⟨m, fun _ => 0, ρ⟩ (Post m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0)
    (hshare := fun c w => by unfold Dat.share; split <;> rfl)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HB⟩
      ihave H' := (own_pair_emb (embR : Emb (UB × Counters) 𝕄) (initOf cells tokens) 1) $$ HB
      icases H' with ⟨HX', -⟩
      ihave HX := (Entails.of_eq (show BI.own (((Emb.inl : Emb UB (UB × Counters)).trans (embR : Emb (UB × Counters) 𝕄)) (initOf cells tokens))
        = (BI.own (ER (initOf cells tokens)) : sProp 𝕄) from rfl)) $$ HX'
      imod (fund_exchange m) $$ HX with HG
      imodintro
      isplitl [HP] <;> iassumption)
    (hglob := glob m)
    (hA := fun _ _ => rfl) (hpf := fun _ k => k.elim0)
    (X := start m) (Y := fun c => iprop(args m c ∗ unscopedSems0 c)) (Z := fun _ => iprop(emp))
    (hX := start_intro m ρ) (hin := enter m) (hout := leave m)
    (QY := Ends m) (hY := ends_read m)
    (hQ := fun _ h hs => ⟨fun c => ⟨(h c).1 0, (h c).2.2.1⟩, sem_eq_zero hs fun c => (h c).2.2.2⟩)

end Cert.AdaLN

end
-- ==== Proof.Frames.lean ====
/-
# The frames

Each program terminates with its arguments unchanged and every counter at zero.
-/
module

public import proofs.«01_k».proof.Defs
public import proofs.«01_k».proof.Proof.Launch
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Lib.Quiescent

@[expose] public section

noncomputable section

namespace Cert.AdaLN

open Idealize.ShloMosaic Idealize.SL.Sem

/-- What a final state of the kernel says of the arguments, one at a time. -/
theorem args_unchanged {F : FTy → Type} [FloatOps F]
    {m : (ℓ : Loc KernelIdeal.nD KernelIdeal.τ KernelIdeal.sig) → Buf (Elt F) ℓ} {r : PUnit × MemSt KernelIdeal.nD KernelIdeal.τ KernelIdeal.sig (Elt F)} (h : Post m r) (c : Dev KernelIdeal.nD) :
    r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1)
      ∧ r.2.mem ((c.tc : Thread KernelIdeal.nD KernelIdeal.τ).loc KernelIdeal.main_arg2) = m ((c.tc : Thread KernelIdeal.nD KernelIdeal.τ).loc KernelIdeal.main_arg2)
      ∧ r.2.mem ((c.tc : Thread KernelIdeal.nD KernelIdeal.τ).loc KernelIdeal.main_arg3) = m ((c.tc : Thread KernelIdeal.nD KernelIdeal.τ).loc KernelIdeal.main_arg3) :=
  ⟨(h.1 c).2 KernelIdeal.main_arg0 (by simp), (h.1 c).2 KernelIdeal.main_arg1 (by simp), (h.1 c).2 KernelIdeal.main_arg2 (by simp), (h.1 c).2 KernelIdeal.main_arg3 (by simp)⟩

attribute [local instance] Cert.Kernel.Gen.facts Cert.KernelIdeal.Gen.facts Cert.ReferenceIdeal.Gen.facts

/-- The two prints of the kernel have one table of bodies. -/
theorem defs₀_eq : Kernel.defs₀ (F := Bits) = KernelIdeal.defs₀ := by
  unfold Kernel.defs₀ KernelIdeal.defs₀
  congr 1
  funext l a
  match l, a with
  | 0, (t, s) => rfl
/-- The two prints of the kernel mean the same calls. -/
theorem defs_eq : Kernel.defs (F := Bits) = KernelIdeal.defs := by
  unfold Kernel.defs KernelIdeal.defs
  rw [defs₀_eq]
  rfl

/-- The kernel, at machine floats. -/
theorem frame_kernel : Cert.quiescent_Kernel := fun m ρ _ => by
  have h := (θ_run KernelIdeal.defs _ _).mono (fun _ h => And.intro (fun c => args_unchanged h c) h.2) (run_main (F := Bits) m ρ)
  rw [← defs_eq] at h
  exact h

/-- The kernel, at the ideal floats. -/
theorem frame_kernelIdeal : Cert.quiescent_KernelIdeal := fun m ρ _ =>
  (θ_run KernelIdeal.defs _ _).mono (fun _ h => ⟨fun c => args_unchanged h c, h.2⟩) (run_main (F := Ideal) m ρ)

/-- The reference: it declares no semaphore. -/
theorem frame_referenceIdeal : Cert.quiescent_ReferenceIdeal := fun m ρ _ =>
  (θ_run ReferenceIdeal.defs _ _).mono (fun _ h => ⟨fun c => (h c).2, sem_eq_zero_of_no_sems rfl _⟩) (ReferenceIdeal.Value.run (F := Ideal) m ρ)

end Cert.AdaLN

end
-- ==== Proof.Value.lean ====
/-
# The kernel's result over the extended reals, element by element
-/
module

public import proofs.«01_k».proof.Proof.Slots
public import Idealize.ShloMosaic.Lib.Pointwise
public import Idealize.ShloMosaic.Lib.Layout

@[expose] public section

noncomputable section

namespace Cert.AdaLN

open Cert.KernelIdeal Cert.KernelIdeal.Gen
open Idealize.ShloMosaic Idealize.ShloMosaic.TcCoe

/-- The first four rows of a slice's statistics are sums over the device's channels, -/
theorem pay1_sum (x : Vec Ideal S4x128x256 .f32) (b : Fin 4) (j : Fin 128) :
    k0_pay1 x (ix4 0 0 ⟨b.val, by omega⟩ j) = ∑ l : Fin 256, x (ix3 b j l) := by
  pointwise [k0_pay1]
/-- the last four sums of squares. -/
theorem pay1_sq (x : Vec Ideal S4x128x256 .f32) (b : Fin 4) (j : Fin 128) :
    k0_pay1 x (ix4 0 0 ⟨4 + b.val, by omega⟩ j) = ∑ l : Fin 256, x (ix3 b j l) * x (ix3 b j l) := by
  pointwise [k0_pay1]

/-- The scale is one plus a product with the scale weights; -/
theorem pay7_apply (t : Vec Ideal S4x128 .f32) (w : Vec Ideal S128x256 .f32) (b : Fin 4) (l : Fin 256) :
    k0_pay7 t w (ix2 b l) = 1 + ∑ k : Fin 128, t (ix2 b k) * w (ix2 k l) := by
  pointwise [k0_pay7, dot_S4x128_S128x256_S4x256_1_0_0_1_n_n]
/-- the shift is a product with the shift weights. -/
theorem pay8_apply (t : Vec Ideal S4x128 .f32) (w : Vec Ideal S128x256 .f32) (b : Fin 4) (l : Fin 256) :
    k0_pay8 t w (ix2 b l) = ∑ k : Fin 128, t (ix2 b k) * w (ix2 k l) := by
  pointwise [k0_pay8, dot_S4x128_S128x256_S4x256_1_0_0_1_n_n]

/-- The divisor 1024 and the number added to the variance, as their float words. -/
abbrev nW : EReal := Ideal.ofBits .f32 0x44800000#32
abbrev epsW : EReal := Ideal.ofBits .f32 0x3727C5AC#32

/-- The kernel's output element: from the element of `x`, its row's sum and sum of squares, the factor and the shift. -/
def cellOf (x S Q g h : EReal) : EReal :=
  (x - Ideal.div S nW) * Ideal.rsqrt (Ideal.div Q nW - Ideal.div S nW * Ideal.div S nW + epsW) * g + h

/-- An element of a result's slice, of the slice of activations, the scale, the shift and the four devices' statistics. -/
theorem pay14_apply (x : Vec Ideal S4x128x256 .f32) (g h : FVec Ideal S4x256 .bf16) (s0 s1 s2 s3 : Vec Ideal S1x1x8x128 .f32) (b : Fin 4) (j : Fin 128) (l : Fin 256) :
    k0_pay14 x g h s0 s1 s2 s3 (ix3 b j l)
      = cellOf (x (ix3 b j l))
          (s0 (ix4 0 0 ⟨b.val, by omega⟩ j) + s1 (ix4 0 0 ⟨b.val, by omega⟩ j) + s2 (ix4 0 0 ⟨b.val, by omega⟩ j) + s3 (ix4 0 0 ⟨b.val, by omega⟩ j))
          (s0 (ix4 0 0 ⟨4 + b.val, by omega⟩ j) + s1 (ix4 0 0 ⟨4 + b.val, by omega⟩ j) + s2 (ix4 0 0 ⟨4 + b.val, by omega⟩ j) + s3 (ix4 0 0 ⟨4 + b.val, by omega⟩ j))
          (g (ix2 b l)) (h (ix2 b l)) := by
  unfold cellOf
  pointwise [k0_pay14]

variable (m : (ℓ : Loc nD τ sig) → Buf (Elt Ideal) ℓ)

/-- Summing over a device and the three behind it sums over all. -/
theorem sum_devices (c : Dev nD) (f : Dev nD → EReal) : f c + f (back c 1) + f (back c 2) + f (back c 3) = ∑ d, f d := by
  have h : ∀ c : Dev nD, ∀ f : Dev nD → EReal, f c + f (back c 1) + f (back c 2) + f (back c 3) = f 0 + f 1 + f 2 + f 3 := by
    intro c f
    match c with
    | 0 => show f 0 + f 3 + f 2 + f 1 = _; ac_rfl
    | 1 => show f 1 + f 0 + f 3 + f 2 = _; ac_rfl
    | 2 => show f 2 + f 1 + f 0 + f 3 = _; ac_rfl
    | 3 => show f 3 + f 2 + f 1 + f 0 = _; ac_rfl
  rw [h]; exact (Fin.sum_univ_four f).symm

/-- Element `(b, s, l)` of device `c`'s result: from the sums over all devices' channels of row `s`. -/
theorem outAt_apply (c : Dev nD) (b : Fin 4) (s : Fin 512) (l : Fin 256) :
    outAt m c (ix3 b s l) = cellOf (xin m c (ix3 b s l)) (∑ d : Dev nD, ∑ k : Fin 256, xin m d (ix3 b s k))
      (∑ d : Dev nD, ∑ k : Fin 256, xin m d (ix3 b s k) * xin m d (ix3 b s k))
      (1 + ∑ k : Fin 128, tin m c (ix2 b k) * wsin m c (ix2 k l)) (∑ k : Fin 128, tin m c (ix2 b k) * wshin m c (ix2 k l)) := by
  have hs : s.val < 512 := s.isLt
  have hx : ∀ (d : Dev nD) (k : Fin 256), xrow m d (s.val / 128) (ix3 b ⟨s.val % 128, Nat.mod_lt _ (by decide)⟩ k) = xin m d (ix3 b s k) := fun d k => by
    show xin m d (ix3 b ⟨(128 * (s.val / 128) + s.val % 128) % 512, _⟩ k) = _
    congr 2
    exact Fin.ext (by show (128 * (s.val / 128) + s.val % 128) % 512 = s.val; omega)
  show outRow m c (s.val / 128) (ix3 b ⟨s.val % 128, _⟩ l) = _
  unfold outRow scale shift
  rw [pay14_apply, pay7_apply, pay8_apply]
  unfold stat
  simp only [pay1_sum, pay1_sq, hx]
  rw [sum_devices c fun d => ∑ k : Fin 256, xin m d (ix3 b s k), sum_devices c fun d => ∑ k : Fin 256, xin m d (ix3 b s k) * xin m d (ix3 b s k)]

/-- With the devices' arguments the blocks of whole arrays: the sums run over the whole row. -/
theorem outAt_block (X : (⟨3, ![4, 512, 1024]⟩ : Shape).Idx → EReal) (T : (⟨2, ![4, 128]⟩ : Shape).Idx → EReal) (W V : (⟨2, ![128, 1024]⟩ : Shape).Idx → EReal)
    (hX : ∀ c : Dev nD, xin m c = Layout.block ⟨3, ![4, 512, 256]⟩ ⟨3, ![4, 512, 1024]⟩ 2 4 c X) (hT : ∀ c : Dev nD, tin m c = T)
    (hW : ∀ c : Dev nD, wsin m c = Layout.block ⟨2, ![128, 256]⟩ ⟨2, ![128, 1024]⟩ 1 4 c W)
    (hV : ∀ c : Dev nD, wshin m c = Layout.block ⟨2, ![128, 256]⟩ ⟨2, ![128, 1024]⟩ 1 4 c V)
    (c : Dev nD) (b : Fin 4) (s : Fin 512) (l : Fin 256) (g : Fin 1024) (hg : g.val = c.val * 256 + l.val) :
    outAt m c (ix3 b s l) = cellOf (X (ix3 b s g)) (∑ k : Fin 1024, X (ix3 b s k)) (∑ k : Fin 1024, X (ix3 b s k) * X (ix3 b s k))
      (1 + ∑ k : Fin 128, T (ix2 b k) * W (ix2 k g)) (∑ k : Fin 128, T (ix2 b k) * V (ix2 k g)) := by
  have hx : ∀ (d : Dev nD) (k : Fin 256) (g : Fin 1024), g.val = d.val * 256 + k.val → xin m d (ix3 b s k) = X (ix3 b s g) := fun d k g hg => by
    rw [hX, Layout.block_apply]
    congr 1
    funext a
    match a with
    | ⟨0, _⟩ => rfl
    | ⟨1, _⟩ => rfl
    | ⟨2, _⟩ => exact Fin.ext hg.symm
  have hw : ∀ (M : (⟨2, ![128, 1024]⟩ : Shape).Idx → EReal) (k : Fin 128),
      Layout.block ⟨2, ![128, 256]⟩ ⟨2, ![128, 1024]⟩ 1 4 c M (by decide) (ix2 k l) = M (ix2 k g) := fun M k => by
    rw [Layout.block_apply]
    congr 1
    funext a
    match a with
    | ⟨0, _⟩ => rfl
    | ⟨1, _⟩ => exact Fin.ext hg.symm
  have hk : ∀ (d : Dev nD) (k : Fin 256), d.val * 256 + k.val < 1024 := fun d k => by have hd : d.val < 4 := d.isLt; omega
  rw [outAt_apply, hT, hW, hV, hx c l g hg, Fin.sum_univ_tiles 4 256 rfl fun k => X (ix3 b s k), Fin.sum_univ_tiles 4 256 rfl fun k => X (ix3 b s k) * X (ix3 b s k)]
  simp only [hw]
  congr 1
  · exact Finset.sum_congr rfl fun d _ => Finset.sum_congr rfl fun k _ => hx d k ⟨_, hk d k⟩ rfl
  · exact Finset.sum_congr rfl fun d _ => Finset.sum_congr rfl fun k _ => by rw [hx d k ⟨_, hk d k⟩ rfl]

end Cert.AdaLN

end
-- ==== Proof.RefValue.lean ====
/-
# The reference's result over the extended reals, element by element
-/
module

public import proofs.«01_k».proof.Proof.Gen.ReferenceIdeal
public import proofs.«01_k».proof.Proof.Gen.ReferenceIdeal.Run
public import Idealize.ShloMosaic.Lib.Pointwise

@[expose] public section

noncomputable section

namespace Cert.AdaLN

open Cert.ReferenceIdeal Cert.ReferenceIdeal.Gen
open Idealize.ShloMosaic

/-- Each row's sum over the channels, kept as an axis of length one. -/
def rowSum (x : FVec Ideal S4x512x1024 .f32) : FVec Ideal S4x512x1 .f32 :=
  broadcastInDim S4x512x1 ![0, 1] bcast_S4x512_S4x512x1_0_1 (Host.reduceAdd x (constant S_ .f32 0x00000000#32) reducesTo_S4x512x1024_S4x512_d2 h_S_)
/-- `x` less its row's mean. -/
def centred (x : FVec Ideal S4x512x1024 .f32) : FVec Ideal S4x512x1024 .f32 :=
  subf x (broadcastInDim S4x512x1024 ![0, 1, 2] bcast_S4x512x1_S4x512x1024_0_1_2
    (Host.divf (rowSum x) (broadcastInDim S4x512x1 ![] bcast_S_S4x512x1 (constant S_ .f32 0x44800000#32))))
/-- The number of channels less the zero degrees of freedom taken off. -/
def count : FVec Ideal S_ .f32 := subf (constant S_ .f32 0x44800000#32) (sitofp .f32 (constantI S_ 32 0#32))
/-- Each row's variance. -/
def variance (x : FVec Ideal S4x512x1024 .f32) : FVec Ideal S4x512x1 .f32 :=
  select (broadcastInDim S4x512x1 ![] bcast_S_S4x512x1 (cmpf .ogt count (constant S_ .f32 0x00000000#32)))
    (Host.divf (rowSum (mulf (centred x) (centred x))) (broadcastInDim S4x512x1 ![] bcast_S_S4x512x1 count))
    (broadcastInDim S4x512x1 ![] bcast_S_S4x512x1 (id (constant S_ .f32 0x7FC00000#32)))
/-- The product of the time embedding with a weight, an axis of length one put in for the rows. -/
def modulation (t : FVec Ideal S4x128 .f32) (w : FVec Ideal S128x1024 .f32) : FVec Ideal S4x1x1024 .f32 :=
  broadcastInDim S4x1x1024 ![0, 2] bcast_S4x1024_S4x1x1024_0_2 (Host.dotGeneral dot_S4x128_S128x1024_S4x1024_1_0_0_1_n_n none t w)
/-- The reference's result. -/
def refOut (x : FVec Ideal S4x512x1024 .f32) (t : FVec Ideal S4x128 .f32) (w v : FVec Ideal S128x1024 .f32) : FVec Ideal S4x512x1024 .bf16 :=
  truncf .bf16 (addf
    (mulf (Host.divf (centred x) (broadcastInDim S4x512x1024 ![0, 1, 2] bcast_S4x512x1_S4x512x1024_0_1_2
        (Host.sqrt (addf (variance x) (broadcastInDim S4x512x1 ![] bcast_S_S4x512x1 (constant S_ .f32 0x3727C5AC#32))))))
      (broadcastInDim S4x512x1024 ![0, 1, 2] bcast_S4x1x1024_S4x512x1024_0_1_2
        (addf (broadcastInDim S4x1x1024 ![] bcast_S_S4x1x1024 (constant S_ .f32 0x3F800000#32)) (modulation t w))))
    (broadcastInDim S4x512x1024 ![0, 1, 2] bcast_S4x1x1024_S4x512x1024_0_1_2 (modulation t v))) bitsLt_bf16_f32

/-- A row's sum is the sum of its elements. -/
theorem rowSum_apply (x : FVec Ideal S4x512x1024 .f32) (b : Fin 4) (s : Fin 512) : rowSum x (ix3 b s 0) = ∑ k : Fin 1024, x (ix3 b s k) := by
  pointwise [rowSum]
/-- An element less its row's mean, which is the row's sum over 1024. -/
theorem centred_apply (x : FVec Ideal S4x512x1024 .f32) (b : Fin 4) (s : Fin 512) (g : Fin 1024) :
    centred x (ix3 b s g) = x (ix3 b s g) - Ideal.div (∑ k : Fin 1024, x (ix3 b s k)) (Ideal.ofBits .f32 0x44800000#32) := by
  pointwise [centred, rowSum_apply]
/-- The word of the number of channels is 1024; -/
theorem ofBits_n : Ideal.ofBits .f32 0x44800000#32 = ((1024 : ℝ) : EReal) := by
  simp [Ideal.ofBits, Ideal.ieee, -EReal.coe_mul]; norm_num
/-- that of the number added to the variance is a positive real. -/
theorem ofBits_eps : ∃ e : ℝ, 0 < e ∧ Ideal.ofBits .f32 0x3727C5AC#32 = (e : EReal) := by
  refine ⟨10995116 * 2 ^ (-40 : ℤ), by positivity, ?_⟩
  simp [Ideal.ofBits, Ideal.ieee, -EReal.coe_mul]
/-- A row's variance is the sum of the squared deviations over 1024: nothing is taken off the 1024, which is positive. -/
theorem variance_apply (x : FVec Ideal S4x512x1024 .f32) (b : Fin 4) (s : Fin 512) :
    variance x (ix3 b s 0) = Ideal.div (∑ k : Fin 1024, centred x (ix3 b s k) * centred x (ix3 b s k)) (Ideal.ofBits .f32 0x44800000#32) := by
  have hz : (FloatOps.sitofp .f32 0#32 : Ideal .f32) = (0 : EReal) := by
    show ((((0#32).toInt : ℝ)) : EReal) = 0
    simp
  have hc : Ideal.ofBits .f32 0x44800000#32 - (FloatOps.sitofp .f32 0#32 : Ideal .f32) = Ideal.ofBits .f32 0x44800000#32 := by
    rw [hz, sub_zero]
  have hp : (0 : EReal) < Ideal.ofBits .f32 0x44800000#32 := by rw [ofBits_n]; exact_mod_cast (by norm_num : (0 : ℝ) < 1024)
  pointwise [variance, count, rowSum_apply]
  rw [hc, if_pos hp]
/-- An element of a product with a weight. -/
theorem modulation_apply (t : FVec Ideal S4x128 .f32) (w : FVec Ideal S128x1024 .f32) (b : Fin 4) (g : Fin 1024) :
    modulation t w (ix3 b 0 g) = ∑ k : Fin 128, t (ix2 b k) * w (ix2 k g) := by
  pointwise [modulation, dot_S4x128_S128x1024_S4x1024_1_0_0_1_n_n]
/-- An element of the reference's result, of the arguments' elements. -/
theorem refOut_apply (x : FVec Ideal S4x512x1024 .f32) (t : FVec Ideal S4x128 .f32) (w v : FVec Ideal S128x1024 .f32) (b : Fin 4) (s : Fin 512) (g : Fin 1024) :
    refOut x t w v (ix3 b s g)
      = Ideal.div (x (ix3 b s g) - Ideal.div (∑ k : Fin 1024, x (ix3 b s k)) (Ideal.ofBits .f32 0x44800000#32))
          (Ideal.sqrt (Ideal.div (∑ k : Fin 1024, centred x (ix3 b s k) * centred x (ix3 b s k)) (Ideal.ofBits .f32 0x44800000#32)
            + Ideal.ofBits .f32 0x3727C5AC#32))
        * (1 + ∑ k : Fin 128, t (ix2 b k) * w (ix2 k g)) + ∑ k : Fin 128, t (ix2 b k) * v (ix2 k g) := by
  pointwise [refOut, modulation_apply, centred_apply, variance_apply]

end Cert.AdaLN

end
-- ==== Proof.Equation.lean ====
/-
# The two forms of the normalization agree on a row of real numbers

The kernel scales by the reciprocal root of the mean square less the squared mean; the reference divides by the root of
the mean squared deviation.
-/
module

public import proofs.«01_k».proof.Proof.Value
public import proofs.«01_k».proof.Proof.RefValue

@[expose] public section

noncomputable section

namespace Cert.AdaLN

open Idealize.ShloMosaic

/-- A finite sum of real numbers is the same sum in the extended reals. -/
theorem sum_real {n : ℕ} (y : Fin n → ℝ) : ∑ k, (y k : EReal) = ((∑ k, y k : ℝ) : EReal) := by
  induction n with
  | zero => simp
  | succ n ih => rw [Fin.sum_univ_succ, Fin.sum_univ_succ, ih, EReal.coe_add]

/-- The mean of 1024 squared deviations is the mean square less the squared mean. -/
theorem deviations (y : Fin 1024 → ℝ) :
    (∑ k, (y k - (∑ j, y j) * (1 / 1024)) * (y k - (∑ j, y j) * (1 / 1024))) * (1 / 1024)
      = (∑ k, y k * y k) * (1 / 1024) - (∑ j, y j) * (1 / 1024) * ((∑ j, y j) * (1 / 1024)) := by
  have h : ∀ μ : ℝ, ∑ k, (y k - μ) * (y k - μ) = (∑ k, y k * y k) - 2 * μ * (∑ j, y j) + 1024 * (μ * μ) := fun μ => by
    have e : ∀ k, (y k - μ) * (y k - μ) = y k * y k - 2 * μ * y k + μ * μ := fun k => by ring
    simp only [e, Finset.sum_add_distrib, Finset.sum_sub_distrib, ← Finset.mul_sum, Finset.sum_const, Finset.card_univ,
      Fintype.card_fin, nsmul_eq_mul]
    norm_num
    ring
  rw [h]
  ring

/-- On a row of real numbers the kernel's element is the reference's, whatever the scale and the shift. -/
theorem cell_eq (y : Fin 1024 → ℝ) (g : Fin 1024) (G H : EReal) :
    cellOf (y g) (∑ k, (y k : EReal)) (∑ k, (y k : EReal) * (y k : EReal)) G H
      = Ideal.div ((y g : EReal) - Ideal.div (∑ k, (y k : EReal)) nW)
          (Ideal.sqrt (Ideal.div (∑ k, ((y k : EReal) - Ideal.div (∑ j, (y j : EReal)) nW) * ((y k : EReal) - Ideal.div (∑ j, (y j : EReal)) nW)) nW + epsW))
        * G + H := by
  obtain ⟨e, he, hE⟩ := ofBits_eps
  have hn : (1024 : ℝ) ≠ 0 := by norm_num
  have hd := deviations y
  have h0 : 0 ≤ (∑ k, (y k - (∑ j, y j) * (1 / 1024)) * (y k - (∑ j, y j) * (1 / 1024))) * (1 / 1024) :=
    mul_nonneg (Finset.sum_nonneg fun k _ => mul_self_nonneg _) (by norm_num)
  rw [hd] at h0
  unfold cellOf
  simp only [nW, epsW, ofBits_n, hE, ← EReal.coe_mul, sum_real, Ideal.div_coe hn, ← EReal.coe_sub, ← EReal.coe_add, hd]
  set v := (∑ k, y k * y k) * (1 / 1024) - (∑ j, y j) * (1 / 1024) * ((∑ j, y j) * (1 / 1024)) with hv
  have hp : 0 < v + e := by linarith
  have hs : √(v + e) ≠ 0 := (Real.sqrt_pos.mpr hp).ne'
  rw [Ideal.rsqrt_coe, Ideal.sqrt_coe, if_neg hp.not_gt, if_neg hp.ne', if_neg hp.not_gt, Ideal.div_coe hs, one_div (√(v + e))]

end Cert.AdaLN

end
-- ==== Proof.Algebraic.lean ====
/-
# The kernel's result is the reference's

Over the extended reals, from activations all of which are real numbers, each device's result is its quarter of the
reference's result.
-/
module

public import proofs.«01_k».proof.Defs
public import proofs.«01_k».proof.Proof.Frames
public import proofs.«01_k».proof.Proof.Equation
public import Idealize.ShloMosaic.Lib.Pipeline.ValueKit

@[expose] public section

noncomputable section

namespace Cert.AdaLN

open Idealize.ShloMosaic Idealize.ShloMosaic.TcCoe Idealize.SL.Sem

/-- The one write-back puts what the body left in the staging buffer into the result array. -/
theorem result_eq {F : FTy → Type} [FloatOps F] (m : (ℓ : Loc KernelIdeal.nD KernelIdeal.τ KernelIdeal.sig) → Buf (Elt F) ℓ) (c : Dev KernelIdeal.nD) :
    (dats m 0 c).arrAt (0 : Fin 1) KernelIdeal.cfg0.N = outAt m c := by
  refine (dats m 0 c).arrAt_eq_of_after_last (0 : Fin 1) KernelIdeal.Gen.t0_0 (by decide +kernel) _ fun j => ?_
  rfl

/-- The precondition's relations of shapes, of a device's blocks -/
theorem facts_blocks : Cert.Pre_finite_x_KernelIdeal.Facts := ⟨by decide⟩
/-- and of the whole arrays. -/
theorem facts_whole : Cert.Pre_finite_x_ReferenceIdeal.Facts := ⟨by decide⟩

/-- An extended real whose absolute value compares below the infinite word is a real number. -/
theorem real_of_lt (a : EReal) (h : FloatOps.cmpf (F := Ideal) (φ := .f32) .olt (max a (-a) : EReal) (Ideal.ofBits .f32 0x7F800000#32) = 1#1) : ∃ r : ℝ, a = r := by
  have ht : Ideal.ofBits .f32 0x7F800000#32 = ⊤ := by simp [Ideal.ofBits, Ideal.ieee]
  rw [ht] at h
  induction a with
  | bot => simp [Ideal.cmpf_def, Ideal.cmp_olt] at h
  | top => simp [Ideal.cmpf_def, Ideal.cmp_olt] at h
  | coe r => exact ⟨r, rfl⟩

attribute [local instance] Cert.Kernel.Gen.facts Cert.KernelIdeal.Gen.facts Cert.ReferenceIdeal.Gen.facts facts_blocks facts_whole

/-- The precondition: each of a device's activations is a real number. -/
theorem real_xin {m : (ℓ : Loc KernelIdeal.nD KernelIdeal.τ KernelIdeal.sig) → Buf (Elt Ideal) ℓ} (h : Pre_KernelIdeal_finite_x_KernelIdeal m)
    (c : Dev KernelIdeal.nD) (i : KernelIdeal.S4x512x256.Idx) : ∃ r : ℝ, xin m c i = (r : EReal) :=
  real_of_lt _ (congrFun (h c) i)

/-- An element of a device's result is the reference's element at the channel of the whole row. -/
theorem outAt_eq_refOut (m : (ℓ : Loc KernelIdeal.nD KernelIdeal.τ KernelIdeal.sig) → Buf (Elt Ideal) ℓ)
    (X : (⟨3, ![4, 512, 1024]⟩ : Shape).Idx → EReal) (T : (⟨2, ![4, 128]⟩ : Shape).Idx → EReal) (W V : (⟨2, ![128, 1024]⟩ : Shape).Idx → EReal)
    (hm : Pre_KernelIdeal_finite_x_KernelIdeal m)
    (hX : ∀ c, xin m c = Layout.block ⟨3, ![4, 512, 256]⟩ ⟨3, ![4, 512, 1024]⟩ 2 4 c X) (hT : ∀ c, tin m c = T)
    (hW : ∀ c, wsin m c = Layout.block ⟨2, ![128, 256]⟩ ⟨2, ![128, 1024]⟩ 1 4 c W)
    (hV : ∀ c, wshin m c = Layout.block ⟨2, ![128, 256]⟩ ⟨2, ![128, 1024]⟩ 1 4 c V) (c : Dev KernelIdeal.nD) :
    outAt m c = Layout.block ⟨3, ![4, 512, 256]⟩ ⟨3, ![4, 512, 1024]⟩ 2 4 c (refOut X T W V) := by
  funext i
  obtain ⟨b, s, l, rfl⟩ : ∃ (b : Fin 4) (s : Fin 512) (l : Fin 256), i = ix3 b s l := ⟨i 0, i 1, i 2, by
    funext a
    match a with
    | ⟨0, _⟩ => rfl
    | ⟨1, _⟩ => rfl
    | ⟨2, _⟩ => rfl⟩
  have hc : c.val < 4 := c.isLt
  have hrow : ∀ k : Fin 1024, ∃ r : ℝ, X (ix3 b s k) = (r : EReal) := fun k => by
    obtain ⟨r, hr⟩ := real_xin hm (⟨k.val / 256, by have := k.isLt; show _ < 4; omega⟩ : Fin 4) (ix3 b s ⟨k.val % 256, Nat.mod_lt _ (by decide)⟩)
    refine ⟨r, hr ▸ ?_⟩
    rw [hX, Layout.block_apply]
    congr 1
    funext a
    match a with
    | ⟨0, _⟩ => rfl
    | ⟨1, _⟩ => rfl
    | ⟨2, _⟩ => exact Fin.ext (Nat.div_add_mod' k.val 256).symm
  choose y hy using hrow
  rw [outAt_block m X T W V hX hT hW hV c b s l ⟨c.val * 256 + l.val, by omega⟩ rfl, Layout.block_apply]
  refine Eq.trans ?_ (congrArg (refOut X T W V) (a₁ := ix3 b s ⟨c.val * 256 + l.val, by omega⟩) (by
    funext a
    match a with
    | ⟨0, _⟩ => rfl
    | ⟨1, _⟩ => rfl
    | ⟨2, _⟩ => exact Fin.ext rfl))
  rw [refOut_apply]
  simp only [centred_apply, hy]
  exact cell_eq y _ _ _

/-- The kernel's result is the reference's, from activations that are real numbers. -/
theorem algebraic : Cert.algebraic_KernelIdeal_ReferenceIdeal_pre_finite_x_KernelIdeal := fun m g m' g' hm hargs => by
  refine ⟨refOut _ _ _ _, (θ_run KernelIdeal.defs _ _).mono (fun r h c => ⟨?_, args_unchanged h c⟩) (run_main (F := Ideal) m g),
    (θ_run ReferenceIdeal.defs _ _).mono (fun r h => h 0) (ReferenceIdeal.Value.run (F := Ideal) m' g')⟩
  exact ((h.1 c).1.trans (result_eq m c)).trans
    (outAt_eq_refOut m _ _ _ _ hm (fun c => (hargs c).1) (fun c => (hargs c).2.1) (fun c => (hargs c).2.2.1) (fun c => (hargs c).2.2.2) c)

end Cert.AdaLN

end
-- ==== Proof.lean ====
module

public import proofs.«01_k».proof.Defs
public import proofs.«01_k».proof.Proof.Algebraic
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.AdaLN.facts_blocks, Cert.AdaLN.facts_whole,
  Cert.AdaLN.frame_kernel, Cert.AdaLN.frame_kernelIdeal, fun m ρ _ => Cert.AdaLN.frame_kernelIdeal m ρ trivial,
  Cert.AdaLN.frame_referenceIdeal, fun m ρ _ => Cert.AdaLN.frame_referenceIdeal m ρ trivial, trivial, Cert.AdaLN.algebraic⟩

end Cert.Proof

end
